-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x128x4x64 .f32 := (extf .f32 · bitsLt_bf16_f32) main_arg2
  let main_v9 : FVec F S2x128x4x64 .f32 := Host.absf main_v8
  let main_cst_1 : FVec F S_ .f32 := constant S_ .f32 0x7F800000#32
  let main_v10 : FVec F S2x128x4x64 .f32 := broadcastInDim S2x128x4x64 ![] bcast_S_S2x128x4x64 main_cst_1
  let main_v11 : IVec S2x128x4x64 1 := cmpf .olt main_v9 main_v10
  (main_v3, main_v7, main_v11)
-- ==== Pre_finite_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .bf16) (main_arg1 : FVec F S512x256 .bf16) (main_arg2 : FVec F S2x512x4x64 .bf16) (main_arg3 : FVec F S2x512x4x64 .bf16) (main_arg4 : FVec F S256x512 .bf16) : IVec S2x128x512 1 × IVec S512x256 1 × IVec S2x512x4x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x256 .f32 := (extf .f32 · bitsLt_bf16_f32) main_arg1
  let main_v5 : FVec F S512x256 .f32 := Host.absf main_v4
  let main_cst_0 : FVec F S_ .f32 := constant S_ .f32 0x7F800000#32
  let main_v6 : FVec F S512x256 .f32 := broadcastInDim S512x256 ![] bcast_S_S512x256 main_cst_0
  let main_v7 : IVec S512x256 1 := cmpf .olt main_v5 main_v6
  let main_v8 : FVec F S2x512x4x64 .f32 := (extf .f32 · bitsLt_bf16_f32) main_arg2
  let main_v9 : FVec F S2x512x4x64 .f32 := Host.absf main_v8
  let main_cst_1 : FVec F S_ .f32 := constant S_ .f32 0x7F800000#32
  let main_v10 : FVec F S2x512x4x64 .f32 := broadcastInDim S2x512x4x64 ![] bcast_S_S2x512x4x64 main_cst_1
  let main_v11 : IVec S2x512x4x64 1 := cmpf .olt main_v9 main_v10
  (main_v3, main_v7, main_v11)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x2x4x64x128 : Shape := ⟨5, ![4, 2, 4, 64, 128]⟩
abbrev S4x2x4x128 : Shape := ⟨4, ![4, 2, 4, 128]⟩
abbrev S2x3 : Shape := ⟨2, ![2, 3]⟩
abbrev S_ : Shape := ⟨0, ![]⟩
abbrev S128x128 : Shape := ⟨2, ![128, 128]⟩
abbrev S1x128x4x64 : Shape := ⟨4, ![1, 128, 4, 64]⟩
abbrev S128x4x64 : Shape := ⟨3, ![128, 4, 64]⟩
abbrev S4x128x64 : Shape := ⟨3, ![4, 128, 64]⟩
abbrev S1x128x512 : Shape := ⟨3, ![1, 128, 512]⟩
abbrev S128x512 : Shape := ⟨2, ![128, 512]⟩
abbrev S256x128 : Shape := ⟨2, ![256, 128]⟩
abbrev S4x64x128 : Shape := ⟨3, ![4, 64, 128]⟩
abbrev S4x128x128 : Shape := ⟨3, ![4, 128, 128]⟩
abbrev S1x128x128 : Shape := ⟨3, ![1, 128, 128]⟩
abbrev S4x128 : Shape := ⟨2, ![4, 128]⟩
abbrev S1x1x4x64x128 : Shape := ⟨5, ![1, 1, 4, 64, 128]⟩
abbrev S1x1x4x128 : Shape := ⟨4, ![1, 1, 4, 128]⟩
abbrev S1x1 : Shape := ⟨2, ![1, 1]⟩
abbrev S4x1x128 : Shape := ⟨3, ![4, 1, 128]⟩
abbrev S1x64x128 : Shape := ⟨3, ![1, 64, 128]⟩
abbrev S64x128 : Shape := ⟨2, ![64, 128]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S4x2x4x64x128, .bf16⟩
  | .local _ .vmem, ⟨7, _⟩ => ⟨S4x2x4x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v64 : BitVec 32 := Scalar.addi v2 c1_i32_42
  let c4_i32_43 : BitVec 32 := 4#32
  let v65 : BitVec 32 := Scalar.remsi v64 c4_i32_43
  let c1_i32_52 : BitVec 32 := 1#32
  let v66 : BitVec 32 := Scalar.muli v65 c1_i32_52
  let v67 : BitVec 32 := Scalar.addi c0_i32_53 v66
  v67.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_42 : BitVec 32 := 1#32
  let v64 : BitVec 32 := Scalar.addi v2 c1_i32_42
  let c4_i32_43 : BitVec 32 := 4#32
  let v65 : BitVec 32 := Scalar.remsi v64 c4_i32_43
  let c1_i32_68 : BitVec 32 := 1#32
  let v76 : BitVec 32 := Scalar.muli v65 c1_i32_68
  let v77 : BitVec 32 := Scalar.addi c0_i32_69 v76
  v77.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_74 : BitVec 32 := 2#32
  let v86 : BitVec 32 := Scalar.addi v2 c2_i32_74
  let c4_i32_75 : BitVec 32 := 4#32
  let v87 : BitVec 32 := Scalar.remsi v86 c4_i32_75
  let c1_i32_84 : BitVec 32 := 1#32
  let v88 : BitVec 32 := Scalar.muli v87 c1_i32_84
  let v89 : BitVec 32 := Scalar.addi c0_i32_85 v88
  v89.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_74 : BitVec 32 := 2#32
  let v86 : BitVec 32 := Scalar.addi v2 c2_i32_74
  let c4_i32_75 : BitVec 32 := 4#32
  let v87 : BitVec 32 := Scalar.remsi v86 c4_i32_75
  let c1_i32_100 : BitVec 32 := 1#32
  let v98 : BitVec 32 := Scalar.muli v87 c1_i32_100
  let v99 : BitVec 32 := Scalar.addi c0_i32_101 v98
  v99.toNat
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v108 : BitVec 32 := Scalar.addi v2 c3_i32_106
  let c4_i32_107 : BitVec 32 := 4#32
  let v109 : BitVec 32 := Scalar.remsi v108 c4_i32_107
  let c1_i32_116 : BitVec 32 := 1#32
  let v110 : BitVec 32 := Scalar.muli v109 c1_i32_116
  let v111 : BitVec 32 := Scalar.addi c0_i32_117 v110
  v111.toNat
def k0_dev9 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_106 : BitVec 32 := 3#32
  let v108 : BitVec 32 := Scalar.addi v2 c3_i32_106
  let c4_i32_107 : BitVec 32 := 4#32
  let v109 : BitVec 32 := Scalar.remsi v108 c4_i32_107
  let c1_i32_132 : BitVec 32 := 1#32
  let v120 : BitVec 32 := Scalar.muli v109 c1_i32_132
  let v121 : BitVec 32 := Scalar.addi c0_i32_133 v120
  v121.toNat
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v158 : BitVec 32 := Scalar.addi v2 c1_i32_162
  let c4_i32_163 : BitVec 32 := 4#32
  let v159 : BitVec 32 := Scalar.remsi v158 c4_i32_163
  let c1_i32_172 : BitVec 32 := 1#32
  let v160 : BitVec 32 := Scalar.muli v159 c1_i32_172
  let v161 : BitVec 32 := Scalar.addi c0_i32_173 v160
  v161.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v158 : BitVec 32 := Scalar.addi v2 c1_i32_162
  let c4_i32_163 : BitVec 32 := 4#32
  let v159 : BitVec 32 := Scalar.remsi v158 c4_i32_163
  let c1_i32_188 : BitVec 32 := 1#32
  let v170 : BitVec 32 := Scalar.muli v159 c1_i32_188
  let v171 : BitVec 32 := Scalar.addi c0_i32_189 v170
  v171.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_194 : BitVec 32 := 2#32
  let v180 : BitVec 32 := Scalar.addi v2 c2_i32_194
  let c4_i32_195 : BitVec 32 := 4#32
  let v181 : BitVec 32 := Scalar.remsi v180 c4_i32_195
  let c1_i32_204 : BitVec 32 := 1#32
  let v182 : BitVec 32 := Scalar.muli v181 c1_i32_204
  let v183 : BitVec 32 := Scalar.addi c0_i32_205 v182
  v183.toNat
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_194 : BitVec 32 := 2#32
  let v180 : BitVec 32 := Scalar.addi v2 c2_i32_194
  let c4_i32_195 : BitVec 32 := 4#32
  let v181 : BitVec 32 := Scalar.remsi v180 c4_i32_195
  let c1_i32_220 : BitVec 32 := 1#32
  let v192 : BitVec 32 := Scalar.muli v181 c1_i32_220
  let v193 : BitVec 32 := Scalar.addi c0_i32_221 v192
  v193.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_226 : BitVec 32 := 3#32
  let v202 : BitVec 32 := Scalar.addi v2 c3_i32_226
  let c4_i32_227 : BitVec 32 := 4#32
  let v203 : BitVec 32 := Scalar.remsi v202 c4_i32_227
  let c1_i32_236 : BitVec 32 := 1#32
  let v204 : BitVec 32 := Scalar.muli v203 c1_i32_236
  let v205 : BitVec 32 := Scalar.addi c0_i32_237 v204
  v205.toNat
def k0_dev15 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_226 : BitVec 32 := 3#32
  let v202 : BitVec 32 := Scalar.addi v2 c3_i32_226
  let c4_i32_227 : BitVec 32 := 4#32
  let v203 : BitVec 32 := Scalar.remsi v202 c4_i32_227
  let c1_i32_252 : BitVec 32 := 1#32
  let v214 : BitVec 32 := Scalar.muli v203 c1_i32_252
  let v215 : BitVec 32 := Scalar.addi c0_i32_253 v214
  v215.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S_ : Shape := ⟨0, ![]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 72
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x128x256, .f32⟩
  | .hbm, ⟨6, _⟩ => ⟨S2x128x256, .bf16⟩
  | .hbm, ⟨7, _⟩ => ⟨S2x128x4x64, .bf16⟩
  | .hbm, ⟨8, _⟩ => ⟨S128, .i32⟩
  | .hbm, ⟨9, _⟩ => ⟨S128x1, .i32⟩
  | .hbm, ⟨10, _⟩ => ⟨S512, .i32⟩
  | .hbm, ⟨11, _⟩ => ⟨S1x512, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512, .i32⟩
  | .hbm, ⟨16, _⟩ => ⟨S_, .i32⟩
  | .hbm, ⟨17, _⟩ => ⟨S128x512, .i32⟩
  | .hbm, ⟨18, _⟩ => ⟨S128x512, .i1⟩
  | .hbm, ⟨19, _⟩ => ⟨S_, .i32⟩
  | .hbm, ⟨20, _⟩ => ⟨S1x512, .i32⟩
  | .hbm, ⟨21, _⟩ => ⟨S1x512, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x512, .i1⟩
  | .hbm, ⟨26, _⟩ => ⟨S128x512, .i1⟩
  | .hbm, ⟨27, _⟩ => ⟨S128x512, .i1⟩
  | .hbm, ⟨28, _⟩ => ⟨S128x512, .i1⟩
  | .hbm, ⟨29, _⟩ => ⟨S2x4x128x512, .f32⟩
  | .hbm, ⟨30, _⟩ => ⟨S2x4x128x512, .bf16⟩
  | .hbm, ⟨31, _⟩ => ⟨S2x4x128x512, .f32⟩
  | .hbm, ⟨32, _⟩ => ⟨S_, .f32⟩
  | .hbm, ⟨33, _⟩ => ⟨S2x4x128x512, .f32⟩
  | .hbm, ⟨34, _⟩ => ⟨S2x4x128x512, .f32⟩
  | .hbm, ⟨35, _⟩ => ⟨S1x1x128x512, .i1⟩
  | .hbm, ⟨36, _⟩ => ⟨S_, .f32⟩
  | .hbm, ⟨37, _⟩ => ⟨S_, .f32⟩
  | .hbm, ⟨38, _⟩ => ⟨S2x4x128x512, .i1⟩
  | .hbm, ⟨39, _⟩ => ⟨S2x4x128x512, .f32⟩
  | .hbm, ⟨40, _⟩ => ⟨S2x4x128x512, .f32⟩
  | .hbm, ⟨41, _⟩ => ⟨S_, .f32⟩
  | .hbm, ⟨42, _⟩ => ⟨S2x4x128, .f32⟩
  | .hbm, ⟨43, _⟩ => ⟨S2x4x128x1, .f32⟩
  | .hbm, ⟨44, _⟩ => ⟨S2x4x128x512, .f32⟩
  | .hbm, ⟨45, _⟩ => ⟨S2x4x128x512, .f32⟩
  | .hbm, ⟨46, _⟩ => ⟨S2x4x128x512, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S2x4x128, .f32⟩
  | .hbm, ⟨52, _⟩ => ⟨S2x4x128x1, .f32⟩
  | .hbm, ⟨53, _⟩ => ⟨S_, .f32⟩
  | .hbm, ⟨54, _⟩ => ⟨S_, .f32⟩
  | .hbm, ⟨55, _⟩ => ⟨S2x4x128x1, .i1⟩
  | .hbm, ⟨56, _⟩ => ⟨S2x4x128x1, .f32⟩
  | .hbm, ⟨57, _⟩ => ⟨S2x4x128x1, .f32⟩
  | .hbm, ⟨58, _⟩ => ⟨S2x4x128x512, .f32⟩
  | .hbm, ⟨59, _⟩ => ⟨S2x4x128x512, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S2x4x128x512, .i1⟩
  | .hbm, ⟨64, _⟩ => ⟨S2x4x128x512, .f32⟩
  | .hbm, ⟨65, _⟩ => ⟨S2x4x128x512, .f32⟩
  | .hbm, ⟨66, _⟩ => ⟨S2x512x4x64, .f32⟩
  | .hbm, ⟨67, _⟩ => ⟨S2x4x64x128, .f32⟩
  | .hbm, ⟨68, _⟩ => ⟨S2x128x4x64, .f32⟩
  | .hbm, ⟨69, _⟩ => ⟨S2x128x256, .f32⟩
  | .hbm, ⟨70, _⟩ => ⟨S256x512, .f32⟩
  | .hbm, ⟨71, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Protocol.lean ====
/-
# The all-to-all exchange of partial attention sums: slots, semaphore cells and their schedule

Each device fills slot 0 of two scratch buffers (for each of the two batch entries, a block of partial context rows and the
matching partial normalisers) and copies it into slots 1, 2, 3 of the three other devices. Before any copy, every device
tells the three others that it has entered; after three such signals a device owns, on each peer, the slot it writes.

Every cell is used for one round. The barrier cell has three duties, one per peer, whose payload is that peer's landing
slots. A receive cell's payload is the landing slot holding the sender's block, a send cell's the lent share of slot 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.Ring.FamCut

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Ghost state: the pipeline's own, and the exchange's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch, every counter at zero. -/
def s₀ : MemSt nD τ sig (Elt F) := ⟨m, fun _ => 0, ρ⟩

/-! ## Peers -/

/-- The device `o + 1` places after `c`. -/
def pe (c : Dev nD) (o : Fin 3) : Dev nD := ⟨(c.val + o.val + 1) % 4, Nat.mod_lt _ (by decide)⟩

theorem pe_rev (c : Dev nD) (o : Fin 3) : pe (pe c o) o.rev = c := by revert c o; decide
theorem pe_rev' (c : Dev nD) (o : Fin 3) : pe (pe c o.rev) o = c := by revert c o; decide

/-- Moving every device `o + 1` places on. -/
def shE (o : Fin 3) : Dev nD ≃ Dev nD := ⟨fun c => pe c o, fun c => pe c o.rev, fun c => pe_rev c o, fun c => pe_rev' c o⟩

/-! ## The slots -/

abbrev mOff (j : Fin 4) (b : Fin 2) : Fin 5 → ℕ := ![j.val, b.val, 0, 0, 0]
abbrev dOff (j : Fin 4) (b : Fin 2) : Fin 4 → ℕ := ![j.val, b.val, 0, 0]

theorem mInb (j : Fin 4) (b : Fin 2) : ∀ a, mOff j b a + S1x1x4x64x128.size a ≤ S4x2x4x64x128.size a := by revert j b; decide
theorem dInb (j : Fin 4) (b : Fin 2) : ∀ a, dOff j b a + S1x1x4x128.size a ≤ S4x2x4x128.size a := by revert j b; decide

abbrev mRect (j : Fin 4) (b : Fin 2) : Rect S4x2x4x64x128 := Rect.unit (s := S4x2x4x64x128) (mOff j b) S1x1x4x64x128.size (mInb j b)
abbrev dRect (j : Fin 4) (b : Fin 2) : Rect S4x2x4x128 := Rect.unit (s := S4x2x4x128) (dOff j b) S1x1x4x128.size (dInb j b)

abbrev mW : Memref sig .tc .vmem S4x2x4x64x128 .bf16 := Memref.whole cc0_scratch0
abbrev dW : Memref sig .tc .vmem S4x2x4x128 .f32 := Memref.whole cc0_scratch1

/-- Slot `j` of batch entry `b` of the context buffer, and of the normaliser buffer. -/
abbrev mS (j : Fin 4) (b : Fin 2) : Memref sig .tc .vmem S1x1x4x64x128 .bf16 := mW.slice (mRect j b) (fun _ => rfl)
abbrev dS (j : Fin 4) (b : Fin 2) : Memref sig .tc .vmem S1x1x4x128 .f32 := dW.slice (dRect j b) (fun _ => rfl)

/-- The same slots with their two unit axes dropped, as the copies name them. -/
abbrev mQ (j : Fin 4) (b : Fin 2) : Memref sig .tc .vmem S4x64x128 .bf16 := (mS j b).squeeze S4x64x128 squeezes_S1x1x4x64x128_S4x64x128
abbrev dQ (j : Fin 4) (b : Fin 2) : Memref sig .tc .vmem S4x128 .f32 := (dS j b).squeeze S4x128 squeezes_S1x1x4x128_S4x128

abbrev NM : ℕ := (mQ 0 0).view.dmaCredit
abbrev ND : ℕ := (dQ 0 0).view.dmaCredit
theorem NM_pos : 0 < NM := View.dmaCredit_pos _ (by decide)
theorem ND_pos : 0 < ND := View.dmaCredit_pos _ (by decide)

/-! ## The cells -/

abbrev barS : Sem sig := (SemArray.scalar (sig.barrier 0 rfl) : Sems sig S_).sem

/-- The copies' semaphores: group 0 sends and 1 receives of contexts, group 2 sends and 3 receives of normalisers. -/
abbrev gx (g : Fin 4) (b : Fin 2) (o : Fin 3) : ℕ := 6 * g.val + 3 * b.val + o.val
theorem gx_lt (g : Fin 4) (b : Fin 2) (o : Fin 3) : gx g b o < 24 := by have := g.isLt; have := b.isLt; have := o.isLt; unfold gx; omega
abbrev oS (i : Fin 24) : DmaSem sig := ⟨6 + i.val, by have := i.isLt; show 6 + i.val < 30; omega⟩
abbrev gS (g : Fin 4) (b : Fin 2) (o : Fin 3) : DmaSem sig := oS ⟨gx g b o, gx_lt g b o⟩

abbrev barCell (c : Dev nD) : GSem nD τ sig := ((c : Thread nD τ), .reg barS)
abbrev cell (c : Dev nD) (g : Fin 4) (b : Fin 2) (o : Fin 3) : GSem nD τ sig := ((c : Thread nD τ), .dma (gS g b o))

/-- The kernel's own semaphores; and all of the exchange's, the barrier last. -/
abbrev osem : Fin 24 → SemLoc sig := fun i => .dma (oS i)
abbrev csem : Fin 25 → SemLoc sig := fun i => if h : i.val < 24 then .dma (oS ⟨i.val, h⟩) else .reg barS
abbrev kcell (ck : Dev nD × Fin 25) : GSem nD τ sig := ((ck.1 : Thread nD τ), csem ck.2)

abbrev ki (g : Fin 4) (b : Fin 2) (o : Fin 3) : Fin 25 := ⟨gx g b o, Nat.lt_succ_of_lt (gx_lt g b o)⟩
theorem kcell_cell (c : Dev nD) (g : Fin 4) (b : Fin 2) (o : Fin 3) : kcell (c, ki g b o) = cell c g b o := by
  unfold kcell csem; rw [dif_pos (gx_lt g b o)]
theorem kcell_bar (c : Dev nD) : kcell (c, 24) = barCell c := rfl

/-! ## Contents -/

abbrev bM : Type := S1x1x4x64x128.Idx → Elt F .bf16
abbrev bD : Type := S1x1x4x128.Idx → Elt F .f32

/-- What is staged of device `c`'s five operands. -/
def xs0 (c : Dev nD) : (cc0_stg0_0 : Ref sig .tc).ty.Contents (Elt F) := (win0_0.blk (0 : Fin 1)).view.read (Elt F) (m ((c : Thread nD τ).loc (win0_0.arr.view.ref)))
def xs1 (c : Dev nD) : (cc0_stg1_0 : Ref sig .tc).ty.Contents (Elt F) := (win0_1.blk (0 : Fin 1)).view.read (Elt F) (m ((c : Thread nD τ).loc (win0_1.arr.view.ref)))
def xs2 (c : Dev nD) : (cc0_stg2_0 : Ref sig .tc).ty.Contents (Elt F) := (win0_2.blk (0 : Fin 1)).view.read (Elt F) (m ((c : Thread nD τ).loc (win0_2.arr.view.ref)))
def xs3 (c : Dev nD) : (cc0_stg3_0 : Ref sig .tc).ty.Contents (Elt F) := (win0_3.blk (0 : Fin 1)).view.read (Elt F) (m ((c : Thread nD τ).loc (win0_3.arr.view.ref)))
def xs4 (c : Dev nD) : (cc0_stg4_0 : Ref sig .tc).ty.Contents (Elt F) := (win0_4.blk (0 : Fin 1)).view.read (Elt F) (m ((c : Thread nD τ).loc (win0_4.arr.view.ref)))

/-- Batch entry `b` of a staged operand, as a load of it reads. -/
def ldX (b : Fin 2) (f : (cc0_stg0_0 : Ref sig .tc).ty.Contents (Elt F)) : Vec F S1x128x512 .bf16 :=
  (Memref.whole cc0_stg0_0 : Memref sig .tc .vmem S2x128x512 .bf16).view.readAt (Elt F)
    (Rect.unit (s := S2x128x512) ![b.val, 0, 0] S1x128x512.size (by revert b; decide)).toLoadRect f
def ldK (b : Fin 2) (f : (cc0_stg2_0 : Ref sig .tc).ty.Contents (Elt F)) : Vec F S1x128x4x64 .bf16 :=
  (Memref.whole cc0_stg2_0 : Memref sig .tc .vmem S2x128x4x64 .bf16).view.readAt (Elt F)
    (Rect.unit (s := S2x128x4x64) ![b.val, 0, 0, 0] S1x128x4x64.size (by revert b; decide)).toLoadRect f
def ldV (b : Fin 2) (f : (cc0_stg3_0 : Ref sig .tc).ty.Contents (Elt F)) : Vec F S1x128x4x64 .bf16 :=
  (Memref.whole cc0_stg3_0 : Memref sig .tc .vmem S2x128x4x64 .bf16).view.readAt (Elt F)
    (Rect.unit (s := S2x128x4x64) ![b.val, 0, 0, 0] S1x128x4x64.size (by revert b; decide)).toLoadRect f

/-- Device `c`'s block of partial contexts for batch entry `b`, as it is sent, and of partial normalisers. -/
def msgC (c : Dev nD) : Fin 2 → bM (F := F)
  | 0 => k0_pay7 (k0_pay1 (xs1 m c)) (k0_pay2 c) (ldK 0 (xs2 m c)) (ldV 0 (xs3 m c)) (ldX 0 (xs0 m c))
  | 1 => k0_pay13 (k0_pay1 (xs1 m c)) (k0_pay3 (k0_pay2 c)) (k0_pay9 (ldK 1 (xs2 m c))) (ldV 1 (xs3 m c)) (ldX 1 (xs0 m c))
def denC (c : Dev nD) : Fin 2 → bD (F := F)
  | 0 => k0_pay8 (k0_pay1 (xs1 m c)) (k0_pay2 c) (ldK 0 (xs2 m c)) (ldX 0 (xs0 m c))
  | 1 => k0_pay14 (k0_pay1 (xs1 m c)) (k0_pay3 (k0_pay2 c)) (k0_pay9 (ldK 1 (xs2 m c))) (ldX 1 (xs0 m c))

/-! ## The schedule -/

/-- The share of slot 0 lent to the copy to peer `o`. -/
abbrev shq : Fin 3 → PosShare TreeShare
  | 0 => fullShare.left | 1 => fullShare.right.left | 2 => fullShare.right.right

/-- A slot held whole, whatever is in it. -/
def anyM (c : Dev nD) (j : Fin 4) (b : Fin 2) : sProp 𝕄 := iprop(∃ f, (mS j b).view.loc (c : Thread nD τ) ↦[(mS j b).view.set]{fullShare} f)
def anyD (c : Dev nD) (j : Fin 4) (b : Fin 2) : sProp 𝕄 := iprop(∃ f, (dS j b).view.loc (c : Thread nD τ) ↦[(dS j b).view.set]{fullShare} f)

/-- Slots `o + 1` of device `c`, all four. -/
def land (c : Dev nD) (o : Fin 3) : sProp 𝕄 := iprop(anyM c o.succ 0 ∗ anyD c o.succ 0 ∗ anyM c o.succ 1 ∗ anyD c o.succ 1)

/-- What completes with a copy: by group, batch entry and offset. -/
def xPay (c : Dev nD) : Fin 4 → Fin 2 → Fin 3 → sProp 𝕄
  | 0, b, o => owns (c : Thread nD τ) (mS 0 b) (shq o) (msgC m c b)
  | 1, b, o => owns (c : Thread nD τ) (mS o.succ b) fullShare (msgC m (pe c o.rev) b)
  | 2, b, o => owns (c : Thread nD τ) (dS 0 b) (shq o) (denC m c b)
  | 3, b, o => owns (c : Thread nD τ) (dS o.succ b) fullShare (denC m (pe c o.rev) b)

abbrev dg (n : ℕ) : Fin 4 := ⟨(n - 6) / 6 % 4, Nat.mod_lt _ (by decide)⟩
abbrev db (n : ℕ) : Fin 2 := ⟨n / 3 % 2, Nat.mod_lt _ (by decide)⟩
abbrev dO (n : ℕ) : Fin 3 := ⟨n % 3, Nat.mod_lt _ (by decide)⟩

def xDuties : SemLoc sig → Finset (Fin 3)
  | .reg s => if s = barS then Finset.univ else ∅
  | .dma s => if 6 ≤ s.val then {0} else ∅

def xAmount : SemLoc sig → ℕ
  | .reg _ => 1
  | .dma s => if s.val < 18 then NM else ND

def xPayload (c : Dev nD) : SemLoc sig → Fin 3 → sProp 𝕄
  | .reg _, d => land (pe c d) d
  | .dma s, _ => xPay m c (dg s.val) (db s.val) (dO s.val)

/-- One round: three duties of a unit each at a barrier cell, one duty of the block's credit at a copy's cell. -/
def Rd : Rounds.Schedule (GSem nD τ sig) (Fin 3) 𝕄 where
  duties g r := if r = 0 ∧ g.1.2 = .tc then xDuties g.2 else ∅
  unitless _ := False
  amount g _ _ := xAmount g.2
  payload g _ d := xPayload m g.1.1 g.2 d
  amount_pos g _ _ _ := by
    rcases g with ⟨t, s | s⟩
    · exact Nat.one_pos
    · show 0 < (if s.val < 18 then NM else ND)
      split
      · exact NM_pos
      · exact ND_pos

omit [FloatOps F] [Named F] in
instance anyM_storable (c : Dev nD) (j : Fin 4) (b : Fin 2) : BI.Storable (upEmb : UEmb _ 𝕄) (anyM (F := F) c j b) := by
  unfold anyM; infer_instance
omit [FloatOps F] [Named F] in
instance anyD_storable (c : Dev nD) (j : Fin 4) (b : Fin 2) : BI.Storable (upEmb : UEmb _ 𝕄) (anyD (F := F) c j b) := by
  unfold anyD; infer_instance
omit [FloatOps F] [Named F] in
instance ownsAt_storable (c : Dev nD) {sh : Shape} {e : EltTy} (w : Memref sig .tc .vmem sh e) (q : PosShare TreeShare) (X : sh.Idx → Elt F e) :
    BI.Storable (upEmb : UEmb _ 𝕄) (owns (c : Thread nD τ) w q X : sProp 𝕄) := by
  unfold owns; infer_instance
omit [FloatOps F] [Named F] in
instance land_storable (c : Dev nD) (o : Fin 3) : BI.Storable (upEmb : UEmb _ 𝕄) (land (F := F) c o) := by
  unfold land; infer_instance

instance xPay_storable (c : Dev nD) (g : Fin 4) (b : Fin 2) (o : Fin 3) : BI.Storable (upEmb : UEmb _ 𝕄) (xPay (F := F) m c g b o) := by
  unfold xPay; split <;> exact ownsAt_storable _ _ _ _

instance Rd_storable (g : GSem nD τ sig) (r : ℕ) (d : Fin 3) : BI.Storable (upEmb : UEmb _ 𝕄) ((Rd (F := F) m).payload g r d) := by
  show BI.Storable upEmb (xPayload m g.1.1 g.2 d)
  unfold xPayload; split <;> infer_instance

section Tables
variable (c : Dev nD) (g : Fin 4) (b : Fin 2) (o : Fin 3)

theorem duties_bar : (Rd (F := F) m).duties (barCell c) 0 = Finset.univ := by
  dsimp only [Rd]; rw [if_pos (And.intro rfl rfl)]; dsimp only [xDuties]; rw [if_pos rfl]
theorem duties_cell : (Rd (F := F) m).duties (cell c g b o) 0 = {0} := by
  dsimp only [Rd]; rw [if_pos (And.intro rfl rfl)]; exact if_pos (show 6 ≤ 6 + gx g b o from Nat.le_add_right 6 _)
theorem duties_later (x : GSem nD τ sig) : ∀ r, 1 ≤ r → (Rd (F := F) m).duties x r = ∅ :=
  fun r hr => if_neg fun h => by omega

/-- A group's block credit. -/
abbrev Ng (g : Fin 4) : ℕ := if g.val < 2 then NM else ND

theorem amount_bar (d : Fin 3) : (Rd (F := F) m).amount (barCell c) 0 d = 1 := rfl
theorem amount_cell (d : Fin 3) : (Rd (F := F) m).amount (cell c g b o) 0 d = Ng g := by
  show (if 6 + gx g b o < 18 then NM else ND) = if g.val < 2 then NM else ND
  have := b.isLt; have := o.isLt
  by_cases h : g.val < 2
  · rw [if_pos h, if_pos (by unfold gx; omega)]
  · rw [if_neg h, if_neg (by unfold gx; omega)]

theorem expect_bar : (Rd (F := F) m).expect (barCell c) 0 = 3 := by
  unfold Schedule.expect Schedule.amountOf
  rw [duties_bar, Finset.sum_congr rfl fun d _ => amount_bar m c d]; rfl
theorem expect_cell : (Rd (F := F) m).expect (cell c g b o) 0 = Ng g := by
  unfold Schedule.expect Schedule.amountOf; rw [duties_cell, Finset.sum_singleton, amount_cell]

theorem payload_bar (d : Fin 3) : (Rd (F := F) m).payload (barCell c) 0 d = land (pe c d) d := rfl
theorem payload_cell (d : Fin 3) : (Rd (F := F) m).payload (cell c g b o) 0 d = xPay m c g b o := by
  show xPay m c (dg (6 + gx g b o)) (db (6 + gx g b o)) (dO (6 + gx g b o)) = xPay m c g b o
  have h1 := g.isLt; have h2 := b.isLt; have h3 := o.isLt
  rw [show dg (6 + gx g b o) = g from Fin.ext (by show (6 + gx g b o - 6) / 6 % 4 = _; unfold gx; omega),
    show db (6 + gx g b o) = b from Fin.ext (by show (6 + gx g b o) / 3 % 2 = _; unfold gx; omega),
    show dO (6 + gx g b o) = o from Fin.ext (by show (6 + gx g b o) % 3 = _; unfold gx; omega)]

theorem rest_bar : bigSep ((Rd (F := F) m).duties (barCell c) 0 \ ∅) (fun d => (Rd (F := F) m).payload (barCell c) 0 d)
    = iprop(land (pe c 0) 0 ∗ land (pe c 1) 1 ∗ land (pe c 2) 2) := by
  rw [Finset.sdiff_empty, duties_bar, bigSep_univ_eq_bigSepL [0, 1, 2] (by decide) (by decide)]; rfl
theorem rest_cell : bigSep ((Rd (F := F) m).duties (cell c g b o) 0 \ ∅) (fun d => (Rd (F := F) m).payload (cell c g b o) 0 d) = xPay m c g b o := by
  rw [Finset.sdiff_empty, duties_cell, bigSep_singleton, payload_cell]

end Tables

/-! ## What a device owes at launch; the levels -/

/-- The credit of the copies to come, the next one outermost. A copy is named by its receive group, entry and offset. -/
def owedL (c : Dev nD) : List (Fin 4 × Fin 2 × Fin 3) → CellTallies nD τ sig Unit
  | [] => 0
  | t :: ts => owedL c ts + tallyAt (cell (pe c t.2.2) t.1 t.2.1 t.2.2) () (Ng t.1)

/-- All twelve copies, in the order they are started. -/
abbrev xfers : List (Fin 4 × Fin 2 × Fin 3) :=
  [(1, 0, 0), (3, 0, 0), (1, 0, 1), (3, 0, 1), (1, 0, 2), (3, 0, 2), (1, 1, 0), (3, 1, 0), (1, 1, 1), (3, 1, 1), (1, 1, 2), (3, 1, 2)]

def O₃ (c : Dev nD) : CellTallies nD τ sig Unit := owedL c xfers
def O₂ (c : Dev nD) : CellTallies nD τ sig Unit := O₃ c + tallyAt (barCell (pe c 2)) () 1
def O₁ (c : Dev nD) : CellTallies nD τ sig Unit := O₂ c + tallyAt (barCell (pe c 1)) () 1
def O₀ (c : Dev nD) : CellTallies nD τ sig Unit := O₁ c + tallyAt (barCell (pe c 0)) () 1

def L (g : GSem nD τ sig) : Finset Unit := if g.1.2 = .tc then {()} else ∅
/-- Barrier cells at 1, receive cells at 2, staging and send cells at 0. -/
def lvS : SemLoc sig → ℕ
  | .reg _ => 1
  | .dma s => if 12 ≤ s.val ∧ (s.val < 18 ∨ 24 ≤ s.val) then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {ts : List (Fin 4 × Fin 2 × Fin 3)} {g : GSem nD τ sig} {u : Unit} (h : 0 < owedL c ts g u) :
    ∃ t ∈ ts, g = cell (pe c t.2.2) t.1 t.2.1 t.2.2 := by
  induction ts with
  | nil => exact absurd h (Nat.lt_irrefl 0)
  | cons t ts ih =>
    by_cases hg : g = cell (pe c t.2.2) t.1 t.2.1 t.2.2
    · exact ⟨t, List.mem_cons_self, hg⟩
    · unfold owedL at h
      rw [Pi.add_apply, Finsupp.add_apply, tallyAt_apply, if_neg (fun h' => hg h'.1), Nat.add_zero] at h
      obtain ⟨t', ht', e⟩ := ih h
      exact ⟨t', List.mem_cons_of_mem _ ht', e⟩

theorem lv_recv (c : Dev nD) (t : Fin 4 × Fin 2 × Fin 3) (ht : t ∈ xfers) : lv (cell (pe c t.2.2) t.1 t.2.1 t.2.2) () = 2 := by
  show lvS (.dma (gS t.1 t.2.1 t.2.2)) = 2
  revert t; decide

theorem O₀_pos {c : Dev nD} {g : GSem nD τ sig} {u : Unit} (h : 0 < O₀ c g u) :
    g.1.2 = .tc ∧ 1 ≤ lv g u := by
  unfold O₀ O₁ O₂ at h
  simp only [Pi.add_apply, Finsupp.add_apply, tallyAt_apply] at h
  by_cases h0 : g = barCell (pe c 0)
  · subst h0; exact ⟨rfl, le_refl 1⟩
  by_cases h1 : g = barCell (pe c 1)
  · subst h1; exact ⟨rfl, le_refl 1⟩
  by_cases h2 : g = barCell (pe c 2)
  · subst h2; exact ⟨rfl, le_refl 1⟩
  simp only [h0, h1, h2, false_and, if_false, Nat.add_zero] at h
  obtain ⟨t, ht, rfl⟩ := owedL_pos (ts := xfers) h
  exact ⟨rfl, by cases u; rw [lv_recv c t ht]; decide⟩

theorem mem_L {g : GSem nD τ sig} (h : g.1.2 = .tc) (u : Unit) : u ∈ L g := by
  unfold L; rw [if_pos h]; exact Finset.mem_singleton_self _

/-- A staging wait may be made while the launch's debts stand, and any wait once there are none. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L rfl _)
      (fun g u hg => mem_L (O₀_pos hg).1 u)
      (fun p hp => by
        rw [Finset.mem_singleton.mp hp]
        show (if 12 ≤ q.val ∧ (q.val < 18 ∨ 24 ≤ q.val) then 2 else 0) ≤ 0
        rw [if_neg (fun h => by omega)])
      (fun g u hg => (O₀_pos hg).2)
  · rw [MayWait_zero]; iintro -; iempintro

/-- At the barrier a device owes its copies only, all above the barrier cells. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp]; exact mem_L rfl _)
    (fun g u hg => by obtain ⟨t, ht, rfl⟩ := owedL_pos (ts := xfers) hg; exact mem_L rfl u)
    (fun p hp => by rw [Finset.mem_singleton.mp hp]; exact le_refl 1)
    (fun g u hg => by obtain ⟨t, ht, rfl⟩ := owedL_pos (ts := xfers) hg; rw [lv_recv c t ht]; decide)

end Cert.Exchange

end
-- ==== Proof.Steps.lean ====
/-
# One rule per effect of the exchange, at its cells and slots
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant and that its round has begun. -/
def records (K : Dev nD × Fin 25 → ℕ) : sProp 𝕄 :=
  iprop((bigSep Finset.univ fun ck : Dev nD × Fin 25 => cellInv ER (Rd m) (K ck) (kcell ck))
    ∗ bigSep Finset.univ fun ck : Dev nD × Fin 25 => reached ER (kcell ck) 0)

instance records_persistent (K : Dev nD × Fin 25 → ℕ) : BI.Persistent (records m K) := by unfold records; infer_instance

theorem rec_inv_at (K : Dev nD × Fin 25 → ℕ) (ck : Dev nD × Fin 25) :
    (bigSep Finset.univ fun ck : Dev nD × Fin 25 => (cellInv ER (Rd m) (K ck) (kcell ck) : sProp 𝕄)) ⊢ cellInv ER (Rd m) (K ck) (kcell ck) :=
  bigSep_elim (Finset.mem_univ ck)
theorem rec_reached_at (ck : Dev nD × Fin 25) :
    (bigSep Finset.univ fun ck : Dev nD × Fin 25 => (reached ER (kcell ck) 0 : sProp 𝕄)) ⊢ reached ER (kcell ck) 0 :=
  bigSep_elim (Finset.mem_univ ck)

theorem rec_inv (K : Dev nD × Fin 25 → ℕ) (c : Dev nD) (g : Fin 4) (b : Fin 2) (o : Fin 3) :
    records m K ⊢ cellInv ER (Rd m) (K (c, ki g b o)) (cell c g b o) := by
  rw [← kcell_cell]
  unfold records
  iintro ⟨H, -⟩
  iapply (rec_inv_at m K (c, ki g b o)); iexact H
theorem rec_bar (K : Dev nD × Fin 25 → ℕ) (c : Dev nD) :
    records m K ⊢ cellInv ER (Rd m) (K (c, 24)) (barCell c) := by
  rw [← kcell_bar]
  unfold records
  iintro ⟨H, -⟩
  iapply (rec_inv_at m K (c, 24)); iexact H
theorem rec_at (K : Dev nD × Fin 25 → ℕ) (c : Dev nD) (g : Fin 4) (b : Fin 2) (o : Fin 3) :
    records m K ⊢ reached ER (cell c g b o) 0 := by
  rw [← kcell_cell]
  unfold records
  iintro ⟨-, H⟩
  iapply (rec_reached_at (F := F) (c, ki g b o)); iexact H
theorem rec_bat (K : Dev nD × Fin 25 → ℕ) (c : Dev nD) :
    records m K ⊢ reached ER (barCell c) 0 := by
  rw [← kcell_bar]
  unfold records
  iintro ⟨-, H⟩
  iapply (rec_reached_at (F := F) (c, 24)); iexact H

/-- The debts of device `c`, whatever it has waited for. -/
def owesX (c : Dev nD) (O : CellTallies nD τ sig Unit) : sProp 𝕄 := iprop(∃ W, owes (c : Thread nD τ) O W)

variable (K : Dev nD × Fin 25 → ℕ)

/-! ## Signals and the barrier wait -/

/-- A signal to the peer at offset `o`, handing it slots `o.rev + 1`. -/
theorem sig_step (c n : Dev nD) (o : Fin 3) (hn : n = pe c o) {w : ℕ} (hw : w = 1)
    (O : CellTallies nD τ sig Unit) {α : Type} {Q : α → sProp 𝕄} {k : PUnit → Prog (TpuEff nD τ sig (Elt F) Λ₀ .tc) α} :
    iprop(records m K ∗ owesX c (O + tallyAt (barCell (pe c o)) () 1) ∗ dutyTok ER (barCell (pe c o)) 0 o.rev ∗ land c o.rev)
      ⊢ iprop((owesX c O -∗ WP c (k ⟨⟩) Q) -∗ WP c (.op (.semSignal (Dev.tc n : Thread nD τ) barS w) k) Q) := by
  subst hn; subst hw
  iintro ⟨#HR, Ho, Ht, Hl⟩ Hk
  unfold owesX
  icases Ho with ⟨%W, HO⟩
  ihave Hi := (rec_bar m K (pe c o)) $$ HR
  ihave Hr := (rec_bat m K (pe c o)) $$ HR
  iapply (Rounds.wp_signal 𝒱₀ ER (Rd m) (c : Thread nD τ) none (dst := (pe c o : Thread nD τ)) (κ := K (pe c o, 24))
      (d := o.rev) (by rw [duties_bar]; exact Finset.mem_univ _) (amount_bar m (pe c o) o.rev) () O rfl) $$ [HO Ht Hl Hi Hr]
  · isplitl [Hi]; · iexact Hi
    isplitl [HO]; · iexact HO
    isplitl [Ht]; · iexact Ht
    isplitl [Hl]
    · rw [payload_bar, pe_rev]; iexact Hl
    iexact Hr
  iintro HO
  iapply Hk
  iexists W; iexact HO

/-- The wait for the three signals: the landing slots on each peer. -/
theorem bar_step (c : Dev nD) {w : ℕ} (hw : w = 3) {α : Type} {Q : α → sProp 𝕄} {k : PUnit → Prog (TpuEff nD τ sig (Elt F) Λ₀ .tc) α} :
    iprop(records m K ∗ levAts L lv ∗ owesX c (O₃ c) ∗ cred (tallyAt (barCell c) () 3) ∗ atPos ER (barCell c) 0 ∅ 0)
      ⊢ iprop(((owesX c (O₃ c) ∗ semVal (barCell c) 0 ∗ land (pe c 0) 0 ∗ land (pe c 1) 1 ∗ land (pe c 2) 2) -∗ WP c (k ⟨⟩) Q)
          -∗ WP c (.op (.semWait barS w) k) Q) := by
  subst hw
  iintro ⟨#HR, #Hlev, Ho, Hc, Hat⟩ Hk
  unfold owesX
  icases Ho with ⟨%W, HO⟩
  ihave #Hi := (rec_bar m K c) $$ HR
  iapply (Rounds.wp_wait_rest_token 𝒱₀ ER (Rd m) (c : Thread nD τ) none (κ := K (c, 24))
      (wpE_semWait_eq 𝒱₀ (c : Thread nD τ) none Set.univ) (Set.mem_univ _) () (O := O₃ c) (W := W) (R := 0) (m := 0) (T := ∅)
      (by rw [expect_bar])) $$ [HO Hc Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, 24))) (fun h => h) (R := 0 + 1) (duties_later m (barCell c))) $$ [Hat] with Hz
  · isplitr; · iexact Hi
    iexact Hat
  iapply Hk
  isplitl [HO]; · iexists _; iexact HO
  isplitl [Hz]; · iexact Hz
  iexact Hp

/-! ## The waits for copies -/

theorem wait_step (c : Dev nD) (g : Fin 4) (b : Fin 2) (o : Fin 3) {sm : DmaSem sig} (hsm : sm = gS g b o)
    {sh sh' : Shape} {e e' : EltTy} {src : Memref sig .tc .vmem sh' e'} {dst : Memref sig .tc .vmem sh e}
    {hs : src.view.WordExact} {hd : dst.view.WordExact} (hN : dst.view.dmaCredit = Ng g)
    {α : Type} {Q : α → sProp 𝕄} {k : PUnit → Prog (TpuEff nD τ sig (Elt F) Λ₀ .tc) α} :
    iprop(records m K ∗ owesX c 0 ∗ cred (tallyAt (cell c g b o) () (Ng g)) ∗ atPos ER (cell c g b o) 0 ∅ 0)
      ⊢ iprop(((owesX c 0 ∗ semVal (cell c g b o) 0 ∗ xPay m c g b o) -∗ WP c (k ⟨⟩) Q)
          -∗ WP c (.op (.waitDma2 sm src dst hs hd) k) Q) := by
  subst hsm
  iintro ⟨#HR, Ho, Hc, Hat⟩ Hk
  unfold owesX
  icases Ho with ⟨%W, HO⟩
  ihave #Hi := (rec_inv m K c g b o) $$ HR
  iapply (Rounds.wp_wait_rest_token 𝒱₀ ER (Rd m) (c : Thread nD τ) none (κ := K (c, ki g b o))
      (wpE_waitDma2_eq 𝒱₀ (c : Thread nD τ) none Set.univ) (Set.mem_univ _) () (O := 0) (W := W) (R := 0) (m := 0) (T := ∅)
      (by rw [Nat.zero_add, expect_cell]; exact hN)) $$ [HO Hc Hat]
  · isplitr; · iexact Hi
    isplitl [Hc]; · rw [hN]; iexact Hc
    isplitl [HO]; · iexact HO
    isplitr; · rw [MayWait_zero]; iempintro
    iexact Hat
  iintro ⟨HO, Hat, -, Hpay⟩
  ihave Hp := (Entails.of_eq (rest_cell m c g b o)) $$ Hpay
  imod (Rounds.cell_close ER (Rd m) (Set.mem_univ (K (c, ki g b o))) (fun h => h) (R := 0 + 1) (duties_later m (cell c g b o))) $$ [Hat] with Hz
  · isplitr; · iexact Hi
    iexact Hat
  iapply Hk
  isplitl [HO]; · iexists _; iexact HO
  isplitl [Hz]; · iexact Hz
  iexact Hp

/-! ## The copies -/

omit [FloatOps F] [Named F] in
/-- What is written through a reshaped view, read back through the view itself: the source's contents, when they were read
    through a reshaping of a view of the same shape. -/
theorem read_reshape_copy {κ κ' : Kind} {sp sp' : Space} {s s' : Shape} {e : EltTy} (v : View sig κ sp s e) (v' : View sig κ' sp' s e) (h : s'.numel = s.numel)
    (f : v.ty.Contents (Elt F)) (f' : v'.ty.Contents (Elt F)) :
    v.read (Elt F) ((v.reshape s' h).write (Elt F) f ((v'.reshape s' h).read (Elt F) f') Finset.univ) = v'.read (Elt F) f' := by
  funext x
  obtain ⟨y, rfl⟩ := (Shape.reshapeEquiv h).surjective x
  have h1 := View.read_write_univ (v := v.reshape s' h) (Val := Elt F) f ((v'.reshape s' h).read (Elt F) f')
  exact congrFun h1 y

omit [FloatOps F] [Named F] in
/-- A memref's elements, held through it with unit axes dropped. -/
theorem pts_squeeze (c : Dev nD) {sh sq : Shape} {e : EltTy} (hq : sh.Squeezes sq) (w : Memref sig .tc .vmem sh e) (q : PosShare TreeShare)
    (f : Buf (Elt F) (w.view.loc (c : Thread nD τ))) :
    ((w.squeeze sq hq).view.loc (c : Thread nD τ) ↦[(w.squeeze sq hq).view.set]{q} f : sProp 𝕄)
      = (w.view.loc (c : Thread nD τ) ↦[w.view.set]{q} f) := by
  show (w.view.loc (c : Thread nD τ) ↦[(w.view.reshape sq hq.numel_eq).set]{q} f : sProp 𝕄) = _
  rw [View.set_reshape]

theorem send_step (c n : Dev nD) (gs gr : Fin 4) (b : Fin 2) (o : Fin 3) (hn : n = pe c o) {sh sq : Shape} {e : EltTy} (hq : sh.Squeezes sq)
    {srcS dstS : Memref sig .tc .vmem sh e} {src dst : Memref sig .tc .vmem sq e} {X : sh.Idx → Elt F e}
    (hsrc : src = srcS.squeeze sq hq) (hdst : dst = dstS.squeeze sq hq)
    {sS rS : DmaSem sig} (hsS : sS = gS gs b o) (hrS : rS = gS gr b o)
    (hp₁ : xPay m c gs b o = owns (c : Thread nD τ) srcS (shq o) X)
    (hp₂ : xPay m (pe c o) gr b o = owns (pe c o : Thread nD τ) dstS fullShare X)
    (hN : (dstS.squeeze sq hq).view.dmaCredit = Ng gr) (hNg : Ng gs = Ng gr)
    {hsc : dst.view.ref.isScScratch = false} {hws : src.view.WordExact} {hwd : dst.view.WordExact}
    {hsem : DmaTarget.Typed .vmem (.dma rS) (.remote (Dev.tc n : Thread nD τ) dst (.dma sS) hsc)}
    (O : CellTallies nD τ sig Unit) {α : Type} {Q : α → sProp 𝕄} {k : PUnit → Prog (TpuEff nD τ sig (Elt F) Λ₀ .tc) α} :
    iprop(records m K ∗ owesX c (O + tallyAt (cell (pe c o) gr b o) () (Ng gr)) ∗ owns (c : Thread nD τ) srcS (shq o) X
        ∗ (∃ f, dstS.view.loc (pe c o : Thread nD τ) ↦[dstS.view.set]{fullShare} f)
        ∗ dutyTok ER (cell c gs b o) 0 0 ∗ dutyTok ER (cell (pe c o) gr b o) 0 0)
      ⊢ iprop(((owesX c O ∗ cred (tallyAt (cell c gs b o) () (Ng gs))) -∗ WP c (k ⟨⟩) Q)
          -∗ WP c (.op (.enqueueDma src (.remote (Dev.tc n : Thread nD τ) dst (.dma sS) hsc) (.dma rS) hws hwd hsem) k) Q) := by
  subst hn; subst hsrc; subst hdst; subst hsS; subst hrS
  iintro ⟨#HR, Ho, Hs, ⟨%fd, Hd⟩, Ht1, Ht2⟩ Hk
  unfold owesX owns
  icases Ho with ⟨%W, HO⟩
  icases Hs with ⟨%fs, %hX, Hs⟩
  ihave Hi1 := (rec_inv m K c gs b o) $$ HR
  ihave Hi2 := (rec_inv m K (pe c o) gr b o) $$ HR
  ihave Hr1 := (rec_at m K c gs b o) $$ HR
  ihave Hr2 := (rec_at m K (pe c o) gr b o) $$ HR
  iapply (Rounds.wp_send_pointsTo 𝒱₀ ER (Rd m) (c : Thread nD τ) none (κ₁ := K (c, ki gs b o)) (κ₂ := K (pe c o, ki gr b o))
    (c' := (pe c o : Thread nD τ)) (src := srcS.squeeze sq hq) (dst := (dstS.squeeze sq hq : Memref sig .tc .vmem sq e)) (q := shq o) (fs := fs)
    (r₁ := 0) (r₂ := 0) (d₁ := 0) (d₂ := 0) (fd := fd)
    (by rw [duties_cell]; exact Finset.mem_singleton_self _) (by rw [duties_cell]; exact Finset.mem_singleton_self _)
    () () (Ng gr) (show (dstS.squeeze sq hq).view.amount (.dma (gS gr b o)) = Ng gr from hN) ((amount_cell m c gs b o 0).trans hNg) (amount_cell m (pe c o) gr b o 0) O rfl (W := W)
    (by
      rw [payload_cell, hp₁]; unfold owns
      iintro H; iexists fs; isplitr; · ipureintro; exact hX
      iapply (Entails.of_eq (pts_squeeze c hq srcS (shq o) fs)); iexact H)
    (by
      rw [payload_cell, hp₂]; unfold owns
      iintro H
      iexists ((dstS.view.reshape sq hq.numel_eq).write (Elt F) fd ((srcS.view.reshape sq hq.numel_eq).read (Elt F) fs) Finset.univ)
      isplitr
      · ipureintro
        rw [← hX]; exact read_reshape_copy dstS.view srcS.view hq.numel_eq fd fs
      iapply (Entails.of_eq (pts_squeeze (pe c o) hq dstS fullShare _)); iexact H)) $$ [HO Hs Hd Ht1 Ht2 Hi1 Hi2 Hr1 Hr2]
  · isplitl [Hi1]; · iexact Hi1
    isplitl [Hi2]; · iexact Hi2
    isplitl [Hs]; · iapply (Entails.of_eq (pts_squeeze c hq srcS (shq o) fs).symm); iexact Hs
    isplitl [Hd]; · iapply (Entails.of_eq (pts_squeeze (pe c o) hq dstS fullShare fd).symm); iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  rw [hNg]; iexact Hc

/-! ## The two copies of an entry to a peer -/

/-- What a device holds to start its two copies of entry `b` to the peer at offset `o`. -/
def stk (c : Dev nD) (b : Fin 2) (o : Fin 3) : sProp 𝕄 :=
  iprop((dutyTok ER (cell c 0 b o) 0 0 ∗ dutyTok ER (cell (pe c o) 1 b o) 0 0) ∗ dutyTok ER (cell c 2 b o) 0 0 ∗ dutyTok ER (cell (pe c o) 3 b o) 0 0)

theorem sendM_step (c n : Dev nD) (b : Fin 2) (o : Fin 3) (ts : List (Fin 4 × Fin 2 × Fin 3)) (hn : n = pe c o)
    {src dst : Memref sig .tc .vmem S4x64x128 .bf16} (hsrc : src = mQ 0 b) (hdst : dst = mQ o.succ b)
    {sS rS : DmaSem sig} (hsS : sS = gS 0 b o) (hrS : rS = gS 1 b o)
    {hsc : dst.view.ref.isScScratch = false} {hws : src.view.WordExact} {hwd : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} :
    iprop(records m K ∗ owesX c (owedL c ((1, b, o) :: ts)) ∗ owns (c : Thread nD τ) (mS 0 b) (shq o) (msgC m c b)
        ∗ anyM (pe c o) o.succ b ∗ dutyTok ER (cell c 0 b o) 0 0 ∗ dutyTok ER (cell (pe c o) 1 b o) 0 0)
      ⊢ iprop(((owesX c (owedL c ts) ∗ cred (tallyAt (cell c 0 b o) () (Ng 0))) -∗ WP c (k ⟨⟩) Q)
          -∗ WP c (.op (.enqueueDma src (.remote (Dev.tc n : Thread nD τ) dst (.dma sS) hsc) (.dma rS) hws hwd hsem) k) Q) :=
  send_step m K c n 0 1 b o hn squeezes_S1x1x4x64x128_S4x64x128 (srcS := mS 0 b) (dstS := mS o.succ b) hsrc hdst hsS hrS rfl
    (by show owns (pe c o : Thread nD τ) (mS o.succ b) fullShare (msgC m (pe (pe c o) o.rev) b) = _; rw [pe_rev])
    rfl rfl (owedL c ts)

theorem sendD_step (c n : Dev nD) (b : Fin 2) (o : Fin 3) (ts : List (Fin 4 × Fin 2 × Fin 3)) (hn : n = pe c o)
    {src dst : Memref sig .tc .vmem S4x128 .f32} (hsrc : src = dQ 0 b) (hdst : dst = dQ o.succ b)
    {sS rS : DmaSem sig} (hsS : sS = gS 2 b o) (hrS : rS = gS 3 b o)
    {hsc : dst.view.ref.isScScratch = false} {hws : src.view.WordExact} {hwd : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α} :
    iprop(records m K ∗ owesX c (owedL c ((3, b, o) :: ts)) ∗ owns (c : Thread nD τ) (dS 0 b) (shq o) (denC m c b)
        ∗ anyD (pe c o) o.succ b ∗ dutyTok ER (cell c 2 b o) 0 0 ∗ dutyTok ER (cell (pe c o) 3 b o) 0 0)
      ⊢ iprop(((owesX c (owedL c ts) ∗ cred (tallyAt (cell c 2 b o) () (Ng 2))) -∗ WP c (k ⟨⟩) Q)
          -∗ WP c (.op (.enqueueDma src (.remote (Dev.tc n : Thread nD τ) dst (.dma sS) hsc) (.dma rS) hws hwd hsem) k) Q) :=
  send_step m K c n 2 3 b o hn squeezes_S1x1x4x128_S4x128 (srcS := dS 0 b) (dstS := dS o.succ b) hsrc hdst hsS hrS rfl
    (by show owns (pe c o : Thread nD τ) (dS o.succ b) fullShare (denC m (pe (pe c o) o.rev) b) = _; rw [pe_rev])
    rfl rfl (owedL c ts)

/-- Both copies of entry `b` to the peer at offset `o`, one after the other. -/
theorem send_pair (c n n' : Dev nD) (b : Fin 2) (o : Fin 3) (ts : List (Fin 4 × Fin 2 × Fin 3)) (hn : n = pe c o) (hn' : n' = pe c o)
    {src dst : Memref sig .tc .vmem S4x64x128 .bf16} (hsrc : src = mQ 0 b) (hdst : dst = mQ o.succ b)
    {src' dst' : Memref sig .tc .vmem S4x128 .f32} (hsrc' : src' = dQ 0 b) (hdst' : dst' = dQ o.succ b)
    {sS rS sS' rS' : DmaSem sig} (hsS : sS = gS 0 b o) (hrS : rS = gS 1 b o) (hsS' : sS' = gS 2 b o) (hrS' : rS' = gS 3 b o)
    {hsc : dst.view.ref.isScScratch = false} {hws : src.view.WordExact} {hwd : dst.view.WordExact}
    {hsem : DmaTarget.Typed .vmem (.dma rS) (.remote (Dev.tc n : Thread nD τ) dst (.dma sS) hsc)}
    {hsc' : dst'.view.ref.isScScratch = false} {hws' : src'.view.WordExact} {hwd' : dst'.view.WordExact}
    {hsem' : DmaTarget.Typed .vmem (.dma rS') (.remote (Dev.tc n' : Thread nD τ) dst' (.dma sS') hsc')}
    {α : Type} {Q : α → sProp 𝕄} {k : PUnit → Prog (TpuEff nD τ sig (Elt F) Λ₀ .tc) α} :
    iprop(records m K ∗ owesX c (owedL c ((1, b, o) :: (3, b, o) :: ts)) ∗ owns (c : Thread nD τ) (mS 0 b) (shq o) (msgC m c b)
        ∗ owns (c : Thread nD τ) (dS 0 b) (shq o) (denC m c b) ∗ anyM (pe c o) o.succ b ∗ anyD (pe c o) o.succ b ∗ stk c b o)
      ⊢ iprop(((owesX c (owedL c ts) ∗ cred (tallyAt (cell c 0 b o) () (Ng 0)) ∗ cred (tallyAt (cell c 2 b o) () (Ng 2))) -∗ WP c (k ⟨⟩) Q)
          -∗ WP c (.op (.enqueueDma src (.remote (Dev.tc n : Thread nD τ) dst (.dma sS) hsc) (.dma rS) hws hwd hsem)
              fun _ => .op (.enqueueDma src' (.remote (Dev.tc n' : Thread nD τ) dst' (.dma sS') hsc') (.dma rS') hws' hwd' hsem') k) Q) := by
  unfold stk
  iintro ⟨#HR, Ho, Hm, Hd, HM, HD, ⟨Ht0, Ht1⟩, Ht2, Ht3⟩ Hk
  iapply (sendM_step m K c n b o ((3, b, o) :: ts) hn hsrc hdst hsS hrS) $$ [Ho Hm HM Ht0 Ht1]
  · isplitr; · iexact HR
    isplitl [Ho]; · iexact Ho
    isplitl [Hm]; · iexact Hm
    isplitl [HM]; · iexact HM
    isplitl [Ht0] <;> iassumption
  iintro ⟨Ho, Hc0⟩
  iapply (sendD_step m K c n' b o ts hn' hsrc' hdst' hsS' hrS') $$ [Ho Hd HD Ht2 Ht3]
  · isplitr; · iexact HR
    isplitl [Ho]; · iexact Ho
    isplitl [Hd]; · iexact Hd
    isplitl [HD]; · iexact HD
    isplitl [Ht2] <;> iassumption
  iintro ⟨Ho, Hc2⟩
  iapply Hk
  isplitl [Ho]; · iexact Ho
  isplitl [Hc0] <;> iassumption

/-! ## Loads and stores of slots -/

theorem loadM (c : Dev nD) (j : Fin 4) (b : Fin 2) {off : Fin 5 → ℕ} {inb : ∀ a, off a + S1x1x4x64x128.size a ≤ S4x2x4x64x128.size a} (hoff : off = mOff j b)
    {hl : (mW).view.LoadsAt (Rect.unit (s := S4x2x4x64x128) off S1x1x4x64x128.size inb).toLoadRect}
    (q : PosShare TreeShare) (X : bM (F := F)) {α : Type} {Q : α → sProp 𝕄} {k : bM (F := F) → Prog (TpuEff nD τ sig (Elt F) Λ₀ .tc) α} :
    owns (c : Thread nD τ) (mS j b) q X
      ⊢ iprop((owns (c : Thread nD τ) (mS j b) q X -∗ WP c (k X) Q)
          -∗ WP c (.op (.load mW (Rect.unit (s := S4x2x4x64x128) off S1x1x4x64x128.size inb).toLoadRect hl) k) Q) := by
  subst hoff
  unfold owns
  iintro ⟨%f, %hX, H⟩ Hk
  iapply (wp_load_rect 𝒱₀ (c : Thread nD τ) none Set.univ (m := mW) (r := mRect j b) (f := f) (q := q) (S := (mS j b).view.set) (Finset.Subset.refl _)) $$ H
  iintro H
  rw [show (mW.access (mRect j b)).read (Elt F) f = X from hX]
  iapply Hk
  iexists f; isplitr; · ipureintro; exact hX
  iexact H

theorem loadD (c : Dev nD) (j : Fin 4) (b : Fin 2) {off : Fin 4 → ℕ} {inb : ∀ a, off a + S1x1x4x128.size a ≤ S4x2x4x128.size a} (hoff : off = dOff j b)
    {hl : (dW).view.LoadsAt (Rect.unit (s := S4x2x4x128) off S1x1x4x128.size inb).toLoadRect}
    (q : PosShare TreeShare) (X : bD (F := F)) {α : Type} {Q : α → sProp 𝕄} {k : bD (F := F) → Prog (TpuEff nD τ sig (Elt F) Λ₀ .tc) α} :
    owns (c : Thread nD τ) (dS j b) q X
      ⊢ iprop((owns (c : Thread nD τ) (dS j b) q X -∗ WP c (k X) Q)
          -∗ WP c (.op (.load dW (Rect.unit (s := S4x2x4x128) off S1x1x4x128.size inb).toLoadRect hl) k) Q) := by
  subst hoff
  unfold owns
  iintro ⟨%f, %hX, H⟩ Hk
  iapply (wp_load_rect 𝒱₀ (c : Thread nD τ) none Set.univ (m := dW) (r := dRect j b) (f := f) (q := q) (S := (dS j b).view.set) (Finset.Subset.refl _)) $$ H
  iintro H
  rw [show (dW.access (dRect j b)).read (Elt F) f = X from hX]
  iapply Hk
  iexists f; isplitr; · ipureintro; exact hX
  iexact H

/-- A load of a slot whose contents do not matter, and the store over it. -/
theorem fillM (c : Dev nD) (j : Fin 4) (b : Fin 2) {off off' : Fin 5 → ℕ} {inb : ∀ a, off a + S1x1x4x64x128.size a ≤ S4x2x4x64x128.size a}
    {inb' : ∀ a, off' a + S1x1x4x64x128.size a ≤ S4x2x4x64x128.size a} (hoff : off = mOff j b) (hoff' : off' = mOff j b)
    {hl : (mW).view.LoadsAt (Rect.unit (s := S4x2x4x64x128) off S1x1x4x64x128.size inb).toLoadRect} {w : bM (F := F)}
    {hx : (mW.access (Rect.unit (s := S4x2x4x64x128) off' S1x1x4x64x128.size inb')).Stores Finset.univ}
    {hm : (Finset.univ : Finset (Rect.unit (s := S4x2x4x64x128) off' S1x1x4x64x128.size inb').shape.Idx) = Finset.univ
      ∨ ∀ a, (Rect.unit (s := S4x2x4x64x128) off' S1x1x4x64x128.size inb').stride a = 1}
    {α : Type} {Q : α → sProp 𝕄} {k : PUnit → Prog (TpuEff nD τ sig (Elt F) Λ₀ .tc) α} :
    anyM c j b
      ⊢ iprop((owns (c : Thread nD τ) (mS j b) fullShare w -∗ WP c (k ⟨⟩) Q)
          -∗ WP c (.op (.load mW (Rect.unit (s := S4x2x4x64x128) off S1x1x4x64x128.size inb).toLoadRect hl)
              fun _ => .op (.store mW (Rect.unit (s := S4x2x4x64x128) off' S1x1x4x64x128.size inb') w Finset.univ hx hm) k) Q) := by
  subst hoff; subst hoff'
  unfold anyM owns
  iintro ⟨%f, H⟩ Hk
  iapply (wp_load_rect 𝒱₀ (c : Thread nD τ) none Set.univ (m := mW) (r := mRect j b) (f := f) (q := fullShare) (S := (mS j b).view.set) (Finset.Subset.refl _)) $$ H
  iintro H
  iapply (wp_store 𝒱₀ (c : Thread nD τ) none Set.univ (m := mW) (r := mRect j b) (Mk := Finset.univ) (f := f) (S := (mS j b).view.set) (View.setOn_subset_set _ _)) $$ H
  iintro H
  iapply Hk
  iexists _; isplitr
  · ipureintro; exact View.read_write_univ (v := (mW.access (mRect j b))) (Val := Elt F) f w
  iexact H

theorem fillD (c : Dev nD) (j : Fin 4) (b : Fin 2) {off off' : Fin 4 → ℕ} {inb : ∀ a, off a + S1x1x4x128.size a ≤ S4x2x4x128.size a}
    {inb' : ∀ a, off' a + S1x1x4x128.size a ≤ S4x2x4x128.size a} (hoff : off = dOff j b) (hoff' : off' = dOff j b)
    {hl : (dW).view.LoadsAt (Rect.unit (s := S4x2x4x128) off S1x1x4x128.size inb).toLoadRect} {w : bD (F := F)}
    {hx : (dW.access (Rect.unit (s := S4x2x4x128) off' S1x1x4x128.size inb')).Stores Finset.univ}
    {hm : (Finset.univ : Finset (Rect.unit (s := S4x2x4x128) off' S1x1x4x128.size inb').shape.Idx) = Finset.univ
      ∨ ∀ a, (Rect.unit (s := S4x2x4x128) off' S1x1x4x128.size inb').stride a = 1}
    {α : Type} {Q : α → sProp 𝕄} {k : PUnit → Prog (TpuEff nD τ sig (Elt F) Λ₀ .tc) α} :
    anyD c j b
      ⊢ iprop((owns (c : Thread nD τ) (dS j b) fullShare w -∗ WP c (k ⟨⟩) Q)
          -∗ WP c (.op (.load dW (Rect.unit (s := S4x2x4x128) off S1x1x4x128.size inb).toLoadRect hl)
              fun _ => .op (.store dW (Rect.unit (s := S4x2x4x128) off' S1x1x4x128.size inb') w Finset.univ hx hm) k) Q) := by
  subst hoff; subst hoff'
  unfold anyD owns
  iintro ⟨%f, H⟩ Hk
  iapply (wp_load_rect 𝒱₀ (c : Thread nD τ) none Set.univ (m := dW) (r := dRect j b) (f := f) (q := fullShare) (S := (dS j b).view.set) (Finset.Subset.refl _)) $$ H
  iintro H
  iapply (wp_store 𝒱₀ (c : Thread nD τ) none Set.univ (m := dW) (r := dRect j b) (Mk := Finset.univ) (f := f) (S := (dS j b).view.set) (View.setOn_subset_set _ _)) $$ H
  iintro H
  iapply Hk
  iexists _; isplitr
  · ipureintro; exact View.read_write_univ (v := (dW.access (dRect j b))) (Val := Elt F) f w
  iexact H

end Cert.Exchange

end
-- ==== Proof.Parts.lean ====
/-
# One device's run

The twenty parts of the printed body, each from what it takes to what it leaves, and the whole.
-/
module

public import proofs.«01_k».proof.Proof.Steps
public import Idealize.ShloMosaic.Lib.ValueIdxCore
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
open Idealize.ShloMosaic.ValueIdx (ix3)
variable (K : Dev nD × Fin 25 → ℕ)

/-! ## Results -/

abbrev cM : Type := S4x64x128.Idx → Elt F .f32
abbrev cD : Type := S4x128.Idx → Elt F .f32

/-- The block received in slot `o + 1`. -/
abbrev inM (c : Dev nD) (b : Fin 2) (o : Fin 3) : bM (F := F) := msgC m (pe c o.rev) b
abbrev inD (c : Dev nD) (b : Fin 2) (o : Fin 3) : bD (F := F) := denC m (pe c o.rev) b

/-- A device's own partial contexts and normalisers, unrounded. -/
abbrev ownM0 (c : Dev nD) : FVec F S4x64x128 .f32 := k0_pay6 (k0_pay1 (xs1 m c)) (k0_pay2 c) (ldK 0 (xs2 m c)) (ldV 0 (xs3 m c)) (ldX 0 (xs0 m c))
abbrev ownD0 (c : Dev nD) : FVec F S4x128 .f32 := k0_pay5 (k0_pay1 (xs1 m c)) (k0_pay2 c) (ldK 0 (xs2 m c)) (ldX 0 (xs0 m c))
abbrev ownM1 (c : Dev nD) : FVec F S4x64x128 .f32 := k0_pay12 (k0_pay1 (xs1 m c)) (k0_pay3 (k0_pay2 c)) (k0_pay9 (ldK 1 (xs2 m c))) (ldV 1 (xs3 m c)) (ldX 1 (xs0 m c))
abbrev ownD1 (c : Dev nD) : FVec F S4x128 .f32 := k0_pay11 (k0_pay1 (xs1 m c)) (k0_pay3 (k0_pay2 c)) (k0_pay9 (ldK 1 (xs2 m c))) (ldX 1 (xs0 m c))

/-- Three of the four blocks added up. -/
abbrev sumM0 (c : Dev nD) : FVec F S4x64x128 .f32 := k0_pay18 (k0_pay16 (ownM0 m c) (inM m c 0 0)) (inM m c 0 1)
abbrev sumD0 (c : Dev nD) : FVec F S4x128 .f32 := k0_pay19 (k0_pay17 (ownD0 m c) (inD m c 0 0)) (inD m c 0 1)
abbrev sumM1 (c : Dev nD) : FVec F S4x64x128 .f32 := k0_pay26 (k0_pay24 (ownM1 m c) (inM m c 1 0)) (inM m c 1 1)
abbrev sumD1 (c : Dev nD) : FVec F S4x128 .f32 := k0_pay27 (k0_pay25 (ownD1 m c) (inD m c 1 0)) (inD m c 1 1)

/-- The two rows of blocks a device writes. -/
def res0 (c : Dev nD) : FVec F S1x128x512 .f32 :=
  k0_pay23 (k0_pay15 (xs4 m c)) (k0_pay20 (sumM0 m c) (sumD0 m c) (inM m c 0 2) (inD m c 0 2))
    (k0_pay21 (k0_pay15 (xs4 m c)) (sumM0 m c) (sumD0 m c) (inM m c 0 2) (inD m c 0 2)) (k0_pay22 (sumM0 m c) (sumD0 m c) (inM m c 0 2) (inD m c 0 2))
def res1 (c : Dev nD) : FVec F S1x128x512 .f32 :=
  k0_pay31 (k0_pay29 (k0_pay15 (xs4 m c)) (sumM1 m c) (sumD1 m c) (inM m c 1 2) (inD m c 1 2))
    (k0_pay30 (k0_pay15 (xs4 m c)) (sumM1 m c) (sumD1 m c) (inM m c 1 2) (inD m c 1 2))

abbrev oM : Memref sig .tc .vmem S2x128x512 .f32 := Memref.whole cc0_stg5_0
theorem oInb (b : Fin 2) : ∀ a, (![b.val, 0, 0] : Fin 3 → ℕ) a + S1x128x512.size a ≤ S2x128x512.size a := by revert b; decide
abbrev oRect (b : Fin 2) : Rect S2x128x512 := Rect.unit (s := S2x128x512) ![b.val, 0, 0] S1x128x512.size (oInb b)

/-- The output staging buffer with row `b` overwritten. -/
def wrO (b : Fin 2) (f : (cc0_stg5_0 : Ref sig .tc).ty.Contents (Elt F)) (p : S1x128x512.Idx → Elt F .f32) : (cc0_stg5_0 : Ref sig .tc).ty.Contents (Elt F) :=
  ((oM.access (oRect b)).write (Elt F) f p Finset.univ : oM.view.ty.Contents (Elt F))

/-- The result as a block: batch entry 0 from the first row, 1 from the second. -/
def outAt (c : Dev nD) : (cc0_stg5_0 : Ref sig .tc).ty.Contents (Elt F) := fun i : S2x128x512.Idx =>
  if (i (0 : Fin 3)).val = 0 then res0 m c (ix3 (0 : Fin 1) (i (1 : Fin 3)) (i (2 : Fin 3))) else res1 m c (ix3 (0 : Fin 1) (i (1 : Fin 3)) (i (2 : Fin 3)))

theorem oEmb_val (b : Fin 2) (x : S1x128x512.Idx) (a : Fin 3) :
    ((oM.access (oRect b) : View sig .tc _ _ _).emb x a).val = (![b.val, 0, 0] : Fin 3 → ℕ) a + (x a).val :=
  ValueKit.view_emb_slice_whole_unit_val cc0_stg5_0 ![b.val, 0, 0] S1x128x512.size (oInb b) x a

theorem oEmb (b : Fin 2) (x : S1x128x512.Idx) (i : S2x128x512.Idx) (h0 : (i (0 : Fin 3)).val = b.val) (h1 : (i (1 : Fin 3)).val = (x (1 : Fin 3)).val)
    (h2 : (i (2 : Fin 3)).val = (x (2 : Fin 3)).val) : (oM.access (oRect b) : View sig .tc _ _ _).emb x = i := by
  have hx : (x (0 : Fin 3)).val = 0 := by have := (x (0 : Fin 3)).isLt; exact Nat.lt_one_iff.mp this
  funext a
  apply Fin.ext
  match a with
  | ⟨0, _⟩ => refine (oEmb_val b x 0).trans ?_; show b.val + (x (0 : Fin 3)).val = (i (0 : Fin 3)).val; omega
  | ⟨1, _⟩ => refine (oEmb_val b x 1).trans ?_; show 0 + (x (1 : Fin 3)).val = (i (1 : Fin 3)).val; omega
  | ⟨2, _⟩ => refine (oEmb_val b x 2).trans ?_; show 0 + (x (2 : Fin 3)).val = (i (2 : Fin 3)).val; omega

/-- Both rows written, whatever was there before. -/
theorem wrO_outAt (c : Dev nD) (f : (cc0_stg5_0 : Ref sig .tc).ty.Contents (Elt F)) : wrO 1 (wrO 0 f (res0 m c)) (res1 m c) = outAt m c := by
  funext (i : S2x128x512.Idx)
  unfold outAt
  have hi : (i (0 : Fin 3)).val < 2 := (i (0 : Fin 3)).isLt
  by_cases h : (i (0 : Fin 3)).val = 0
  · rw [if_pos h]
    have hn : i ∉ (oM.access (oRect 1) : View sig .tc _ _ _).setOn Finset.univ := by
      intro hm
      obtain ⟨x, _, hx⟩ := Finset.mem_map.mp hm
      have h1 : ((oM.access (oRect 1) : View sig .tc _ _ _).emb x (0 : Fin 3)).val = (i (0 : Fin 3)).val := congrArg (fun y : S2x128x512.Idx => (y (0 : Fin 3)).val) hx
      have h2 : ((oM.access (oRect 1) : View sig .tc _ _ _).emb x (0 : Fin 3)).val = 1 + (x (0 : Fin 3)).val := oEmb_val 1 x 0
      omega
    refine (View.write_of_not_mem (Val := Elt F) (v := (oM.access (oRect 1) : View sig .tc _ _ _)) _ _ _ hn).trans ?_
    have he := oEmb 0 (ix3 (0 : Fin 1) (i (1 : Fin 3)) (i (2 : Fin 3))) i h rfl rfl
    conv_lhs => rw [← he]
    exact View.write_emb_of_mem (Val := Elt F) (v := (oM.access (oRect 0) : View sig .tc _ _ _)) _ _ (Finset.mem_univ _)
  · rw [if_neg h]
    have he := oEmb 1 (ix3 (0 : Fin 1) (i (1 : Fin 3)) (i (2 : Fin 3))) i (by show _ = 1; omega) rfl rfl
    conv_lhs => rw [← he]
    exact View.write_emb_of_mem (Val := Elt F) (v := (oM.access (oRect 1) : View sig .tc _ _ _)) _ _ (Finset.mem_univ _)

/-! ## What waits for the copies take -/

def tk (c : Dev nD) (g : Fin 4) (b : Fin 2) (o : Fin 3) : sProp 𝕄 := iprop(cred (tallyAt (cell c g b o) () (Ng g)) ∗ atPos ER (cell c g b o) 0 ∅ 0)

theorem wait_tk (c : Dev nD) (g : Fin 4) (b : Fin 2) (o : Fin 3) {sm : DmaSem sig} (hsm : sm = gS g b o)
    {sh sh' : Shape} {e e' : EltTy} {src : Memref sig .tc .vmem sh' e'} {dst : Memref sig .tc .vmem sh e}
    {hs : src.view.WordExact} {hd : dst.view.WordExact} (hN : dst.view.dmaCredit = Ng g)
    {α : Type} {Q : α → sProp 𝕄} {k : PUnit → Prog (TpuEff nD τ sig (Elt F) Λ₀ .tc) α} :
    iprop(records m K ∗ owesX c 0 ∗ tk c g b o)
      ⊢ iprop(((owesX c 0 ∗ semVal (cell c g b o) 0 ∗ xPay m c g b o) -∗ WP c (k ⟨⟩) Q)
          -∗ WP c (.op (.waitDma2 sm src dst hs hd) k) Q) := by
  unfold tk
  exact wait_step m K c g b o hsm hN

/-- A staging buffer held whole. -/
abbrev pt (c : Dev nD) (b : Ref sig .tc) (f : b.ty.Contents (Elt F)) : sProp 𝕄 := (((c : Thread nD τ).loc b) ↦{fullShare} (f : Buf (Elt F) ((c : Thread nD τ).loc b)))

theorem waitM (c : Dev nD) (g : Fin 4) (b : Fin 2) (o : Fin 3) (j : Fin 4) {sm : DmaSem sig} (hsm : sm = gS g b o) (hg : Ng g = NM)
    {src dst : Memref sig .tc .vmem S4x64x128 .bf16} (hdst : dst = mQ j b)
    {hs : src.view.WordExact} {hd : dst.view.WordExact}
    {α : Type} {Q : α → sProp 𝕄} {k : PUnit → Prog (TpuEff nD τ sig (Elt F) Λ₀ .tc) α} :
    iprop(records m K ∗ owesX c 0 ∗ tk c g b o)
      ⊢ iprop(((owesX c 0 ∗ semVal (cell c g b o) 0 ∗ xPay m c g b o) -∗ WP c (k ⟨⟩) Q)
          -∗ WP c (.op (.waitDma2 sm src dst hs hd) k) Q) := by
  subst hdst
  exact wait_tk m K c g b o hsm (hg ▸ rfl)
theorem waitD (c : Dev nD) (g : Fin 4) (b : Fin 2) (o : Fin 3) (j : Fin 4) {sm : DmaSem sig} (hsm : sm = gS g b o) (hg : Ng g = ND)
    {src dst : Memref sig .tc .vmem S4x128 .f32} (hdst : dst = dQ j b)
    {hs : src.view.WordExact} {hd : dst.view.WordExact}
    {α : Type} {Q : α → sProp 𝕄} {k : PUnit → Prog (TpuEff nD τ sig (Elt F) Λ₀ .tc) α} :
    iprop(records m K ∗ owesX c 0 ∗ tk c g b o)
      ⊢ iprop(((owesX c 0 ∗ semVal (cell c g b o) 0 ∗ xPay m c g b o) -∗ WP c (k ⟨⟩) Q)
          -∗ WP c (.op (.waitDma2 sm src dst hs hd) k) Q) := by
  subst hdst
  exact wait_tk m K c g b o hsm (hg ▸ rfl)

theorem ret_step (c : Dev nD) {α : Type} {Q : α → sProp 𝕄} (a : α) : Q a ⊢ WP c (.ret a) Q := by
  show Q a ⊢ wp frame (wpE (defs₀ (F := F)) 𝒱₀ (c : Thread nD τ) none) Set.univ (.ret a) Q
  rw [wp_ret]
  iintro H; imodintro; iexact H

theorem hz2 : (![0, 0] : Fin 2 → Nat) = fun _ => 0 := funext fun a => by fin_cases a <;> rfl

theorem load1 (c : Dev nD) (f : (cc0_stg1_0 : Ref sig .tc).ty.Contents (Elt F)) {inb : ∀ a, (![0, 0] : Fin 2 → ℕ) a + S512x256.size a ≤ S512x256.size a}
    {hl : (Memref.whole cc0_stg1_0 : Memref sig .tc .vmem S512x256 .bf16).view.LoadsAt (Rect.unit (s := S512x256) ![0, 0] S512x256.size inb).toLoadRect}
    {α : Type} {Q : α → sProp 𝕄} {k : (S512x256.Idx → Elt F .bf16) → Prog (TpuEff nD τ sig (Elt F) Λ₀ .tc) α} :
    pt c cc0_stg1_0 f
      ⊢ iprop((pt c cc0_stg1_0 f -∗ WP c (k f) Q)
          -∗ WP c (.op (.load (Memref.whole cc0_stg1_0 : Memref sig .tc .vmem S512x256 .bf16) (Rect.unit (s := S512x256) ![0, 0] S512x256.size inb).toLoadRect hl) k) Q) := by
  have e : (Memref.whole cc0_stg1_0 : Memref sig .tc .vmem S512x256 .bf16).view.readAt (Elt F) (Rect.unit (s := S512x256) ![0, 0] S512x256.size inb).toLoadRect f = f :=
    Memref.readAt_unit_zero (Elt F) cc0_stg1_0 hz2 _ f
  rw [show k f = k ((Memref.whole cc0_stg1_0 : Memref sig .tc .vmem S512x256 .bf16).view.readAt (Elt F) (Rect.unit (s := S512x256) ![0, 0] S512x256.size inb).toLoadRect f)
    from congrArg k e.symm]
  exact wp_load (defs := defs₀ (F := F)) 𝒱₀ (c : Thread nD τ) none Set.univ (m := (Memref.whole cc0_stg1_0 : Memref sig .tc .vmem S512x256 .bf16))
    (r := (Rect.unit (s := S512x256) ![0, 0] S512x256.size inb).toLoadRect) (hl := hl) (k := k) (q := fullShare) (f := f) (Q := Q) (Finset.subset_univ _)
theorem load4 (c : Dev nD) (f : (cc0_stg4_0 : Ref sig .tc).ty.Contents (Elt F)) {inb : ∀ a, (![0, 0] : Fin 2 → ℕ) a + S256x512.size a ≤ S256x512.size a}
    {hl : (Memref.whole cc0_stg4_0 : Memref sig .tc .vmem S256x512 .bf16).view.LoadsAt (Rect.unit (s := S256x512) ![0, 0] S256x512.size inb).toLoadRect}
    {α : Type} {Q : α → sProp 𝕄} {k : (S256x512.Idx → Elt F .bf16) → Prog (TpuEff nD τ sig (Elt F) Λ₀ .tc) α} :
    pt c cc0_stg4_0 f
      ⊢ iprop((pt c cc0_stg4_0 f -∗ WP c (k f) Q)
          -∗ WP c (.op (.load (Memref.whole cc0_stg4_0 : Memref sig .tc .vmem S256x512 .bf16) (Rect.unit (s := S256x512) ![0, 0] S256x512.size inb).toLoadRect hl) k) Q) := by
  have e : (Memref.whole cc0_stg4_0 : Memref sig .tc .vmem S256x512 .bf16).view.readAt (Elt F) (Rect.unit (s := S256x512) ![0, 0] S256x512.size inb).toLoadRect f = f :=
    Memref.readAt_unit_zero (Elt F) cc0_stg4_0 hz2 _ f
  rw [show k f = k ((Memref.whole cc0_stg4_0 : Memref sig .tc .vmem S256x512 .bf16).view.readAt (Elt F) (Rect.unit (s := S256x512) ![0, 0] S256x512.size inb).toLoadRect f)
    from congrArg k e.symm]
  exact wp_load (defs := defs₀ (F := F)) 𝒱₀ (c : Thread nD τ) none Set.univ (m := (Memref.whole cc0_stg4_0 : Memref sig .tc .vmem S256x512 .bf16))
    (r := (Rect.unit (s := S256x512) ![0, 0] S256x512.size inb).toLoadRect) (hl := hl) (k := k) (q := fullShare) (f := f) (Q := Q) (Finset.subset_univ _)

theorem loadX (c : Dev nD) (b : Fin 2) {off : Fin 3 → ℕ} (hoff : off = ![b.val, 0, 0]) (f : (cc0_stg0_0 : Ref sig .tc).ty.Contents (Elt F)) {inb : ∀ a, off a + S1x128x512.size a ≤ S2x128x512.size a}
    {hl : (Memref.whole cc0_stg0_0 : Memref sig .tc .vmem S2x128x512 .bf16).view.LoadsAt (Rect.unit (s := S2x128x512) off S1x128x512.size inb).toLoadRect}
    {α : Type} {Q : α → sProp 𝕄} {k : (S1x128x512.Idx → Elt F .bf16) → Prog (TpuEff nD τ sig (Elt F) Λ₀ .tc) α} :
    pt c cc0_stg0_0 f
      ⊢ iprop((pt c cc0_stg0_0 f -∗ WP c (k (ldX b f)) Q)
          -∗ WP c (.op (.load (Memref.whole cc0_stg0_0 : Memref sig .tc .vmem S2x128x512 .bf16) (Rect.unit (s := S2x128x512) off S1x128x512.size inb).toLoadRect hl) k) Q) := by
  subst hoff
  exact wp_load (defs := defs₀ (F := F)) 𝒱₀ (c : Thread nD τ) none Set.univ (m := (Memref.whole cc0_stg0_0 : Memref sig .tc .vmem S2x128x512 .bf16))
    (r := (Rect.unit (s := S2x128x512) ![b.val, 0, 0] S1x128x512.size inb).toLoadRect) (hl := hl) (k := k) (q := fullShare) (f := f) (Q := Q) (Finset.subset_univ _)
theorem loadK (c : Dev nD) (b : Fin 2) {off : Fin 4 → ℕ} (hoff : off = ![b.val, 0, 0, 0]) (f : (cc0_stg2_0 : Ref sig .tc).ty.Contents (Elt F)) {inb : ∀ a, off a + S1x128x4x64.size a ≤ S2x128x4x64.size a}
    {hl : (Memref.whole cc0_stg2_0 : Memref sig .tc .vmem S2x128x4x64 .bf16).view.LoadsAt (Rect.unit (s := S2x128x4x64) off S1x128x4x64.size inb).toLoadRect}
    {α : Type} {Q : α → sProp 𝕄} {k : (S1x128x4x64.Idx → Elt F .bf16) → Prog (TpuEff nD τ sig (Elt F) Λ₀ .tc) α} :
    pt c cc0_stg2_0 f
      ⊢ iprop((pt c cc0_stg2_0 f -∗ WP c (k (ldK b f)) Q)
          -∗ WP c (.op (.load (Memref.whole cc0_stg2_0 : Memref sig .tc .vmem S2x128x4x64 .bf16) (Rect.unit (s := S2x128x4x64) off S1x128x4x64.size inb).toLoadRect hl) k) Q) := by
  subst hoff
  exact wp_load (defs := defs₀ (F := F)) 𝒱₀ (c : Thread nD τ) none Set.univ (m := (Memref.whole cc0_stg2_0 : Memref sig .tc .vmem S2x128x4x64 .bf16))
    (r := (Rect.unit (s := S2x128x4x64) ![b.val, 0, 0, 0] S1x128x4x64.size inb).toLoadRect) (hl := hl) (k := k) (q := fullShare) (f := f) (Q := Q) (Finset.subset_univ _)
theorem loadV (c : Dev nD) (b : Fin 2) {off : Fin 4 → ℕ} (hoff : off = ![b.val, 0, 0, 0]) (f : (cc0_stg3_0 : Ref sig .tc).ty.Contents (Elt F)) {inb : ∀ a, off a + S1x128x4x64.size a ≤ S2x128x4x64.size a}
    {hl : (Memref.whole cc0_stg3_0 : Memref sig .tc .vmem S2x128x4x64 .bf16).view.LoadsAt (Rect.unit (s := S2x128x4x64) off S1x128x4x64.size inb).toLoadRect}
    {α : Type} {Q : α → sProp 𝕄} {k : (S1x128x4x64.Idx → Elt F .bf16) → Prog (TpuEff nD τ sig (Elt F) Λ₀ .tc) α} :
    pt c cc0_stg3_0 f
      ⊢ iprop((pt c cc0_stg3_0 f -∗ WP c (k (ldV b f)) Q)
          -∗ WP c (.op (.load (Memref.whole cc0_stg3_0 : Memref sig .tc .vmem S2x128x4x64 .bf16) (Rect.unit (s := S2x128x4x64) off S1x128x4x64.size inb).toLoadRect hl) k) Q) := by
  subst hoff
  exact wp_load (defs := defs₀ (F := F)) 𝒱₀ (c : Thread nD τ) none Set.univ (m := (Memref.whole cc0_stg3_0 : Memref sig .tc .vmem S2x128x4x64 .bf16))
    (r := (Rect.unit (s := S2x128x4x64) ![b.val, 0, 0, 0] S1x128x4x64.size inb).toLoadRect) (hl := hl) (k := k) (q := fullShare) (f := f) (Q := Q) (Finset.subset_univ _)

theorem recvM (c : Dev nD) (b : Fin 2) (o : Fin 3) {off : Fin 5 → ℕ} {inb : ∀ a, off a + S1x1x4x64x128.size a ≤ S4x2x4x64x128.size a} (hoff : off = mOff o.succ b)
    {hl : (mW).view.LoadsAt (Rect.unit (s := S4x2x4x64x128) off S1x1x4x64x128.size inb).toLoadRect}
    {α : Type} {Q : α → sProp 𝕄} {k : bM (F := F) → Prog (TpuEff nD τ sig (Elt F) Λ₀ .tc) α} :
    xPay m c 1 b o
      ⊢ iprop((xPay m c 1 b o -∗ WP c (k (inM m c b o)) Q)
          -∗ WP c (.op (.load mW (Rect.unit (s := S4x2x4x64x128) off S1x1x4x64x128.size inb).toLoadRect hl) k) Q) :=
  loadM c o.succ b hoff fullShare (inM m c b o)
theorem recvD (c : Dev nD) (b : Fin 2) (o : Fin 3) {off : Fin 4 → ℕ} {inb : ∀ a, off a + S1x1x4x128.size a ≤ S4x2x4x128.size a} (hoff : off = dOff o.succ b)
    {hl : (dW).view.LoadsAt (Rect.unit (s := S4x2x4x128) off S1x1x4x128.size inb).toLoadRect}
    {α : Type} {Q : α → sProp 𝕄} {k : bD (F := F) → Prog (TpuEff nD τ sig (Elt F) Λ₀ .tc) α} :
    xPay m c 3 b o
      ⊢ iprop((xPay m c 3 b o -∗ WP c (k (inD m c b o)) Q)
          -∗ WP c (.op (.load dW (Rect.unit (s := S4x2x4x128) off S1x1x4x128.size inb).toLoadRect hl) k) Q) :=
  loadD c o.succ b hoff fullShare (inD m c b o)

/-! ## The parts -/

theorem dev1_eq (c : Dev nD) : (⟨k0_dev1 c, k0_dev1_lt c⟩ : Dev nD) = pe c 0 := Fin.ext (k0_dev1_eq c)
theorem dev2_eq (c : Dev nD) : (⟨k0_dev2 c, k0_dev2_lt c⟩ : Dev nD) = pe c 1 := Fin.ext (k0_dev2_eq c)
theorem dev3_eq (c : Dev nD) : (⟨k0_dev3 c, k0_dev3_lt c⟩ : Dev nD) = pe c 2 := Fin.ext (k0_dev3_eq c)
theorem dev4_eq (c : Dev nD) : (⟨k0_dev4 c, k0_dev4_lt c⟩ : Dev nD) = pe c 0 := Fin.ext (k0_dev4_eq c)
theorem dev5_eq (c : Dev nD) : (⟨k0_dev5 c, k0_dev5_lt c⟩ : Dev nD) = pe c 0 := Fin.ext (k0_dev5_eq c)
theorem dev6_eq (c : Dev nD) : (⟨k0_dev6 c, k0_dev6_lt c⟩ : Dev nD) = pe c 1 := Fin.ext (k0_dev6_eq c)
theorem dev7_eq (c : Dev nD) : (⟨k0_dev7 c, k0_dev7_lt c⟩ : Dev nD) = pe c 1 := Fin.ext (k0_dev7_eq c)
theorem dev8_eq (c : Dev nD) : (⟨k0_dev8 c, k0_dev8_lt c⟩ : Dev nD) = pe c 2 := Fin.ext (k0_dev8_eq c)
theorem dev9_eq (c : Dev nD) : (⟨k0_dev9 c, k0_dev9_lt c⟩ : Dev nD) = pe c 2 := Fin.ext (k0_dev9_eq c)
theorem dev10_eq (c : Dev nD) : (⟨k0_dev10 c, k0_dev10_lt c⟩ : Dev nD) = pe c 0 := Fin.ext (k0_dev10_eq c)
theorem dev11_eq (c : Dev nD) : (⟨k0_dev11 c, k0_dev11_lt c⟩ : Dev nD) = pe c 0 := Fin.ext (k0_dev11_eq c)
theorem dev12_eq (c : Dev nD) : (⟨k0_dev12 c, k0_dev12_lt c⟩ : Dev nD) = pe c 1 := Fin.ext (k0_dev12_eq c)
theorem dev13_eq (c : Dev nD) : (⟨k0_dev13 c, k0_dev13_lt c⟩ : Dev nD) = pe c 1 := Fin.ext (k0_dev13_eq c)
theorem dev14_eq (c : Dev nD) : (⟨k0_dev14 c, k0_dev14_lt c⟩ : Dev nD) = pe c 2 := Fin.ext (k0_dev14_eq c)
theorem dev15_eq (c : Dev nD) : (⟨k0_dev15 c, k0_dev15_lt c⟩ : Dev nD) = pe c 2 := Fin.ext (k0_dev15_eq c)

theorem part1_run (c : Dev nD) {Q : (Σ' (_ : Dev nD) (_ : BitVec 32) (_ : Sems sig S_) (_ : FVec F S512x256 .bf16), IVec S128x128 1) → sProp 𝕄} :
    iprop(records m K ∗ owesX c (O₀ c) ∗ (dutyTok ER (barCell (pe c 0)) 0 (Fin.rev 0) ∗ dutyTok ER (barCell (pe c 1)) 0 (Fin.rev 1) ∗ dutyTok ER (barCell (pe c 2)) 0 (Fin.rev 2))
        ∗ (land c (Fin.rev 0) ∗ land c (Fin.rev 1) ∗ land c (Fin.rev 2)) ∗ pt c cc0_stg1_0 (xs1 m c))
      ⊢ iprop((∀ v2, (owesX c (O₃ c) ∗ pt c cc0_stg1_0 (xs1 m c)) -∗ Q ⟨c, v2, SemArray.scalar (sig.barrier 0 rfl), k0_pay1 (xs1 m c), k0_pay2 c⟩)
          -∗ WP c (k0_part1 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) Q) := by
  simp only [k0_part1_eq_skeleton]; unfold k0_part1_skel
  simp only [semSignalWord, semWaitWord, Prog.lift, Prog.bind_op, Prog.bind_ret, Prog.pure_eq_ret, wp_deviceId]
  iintro ⟨#HR, Ho, ⟨Ht0, Ht1, Ht2⟩, ⟨Hl0, Hl1, Hl2⟩, Hx⟩ Hk
  unfold O₀
  iapply (sig_step m K c _ 0 (dev1_eq c) (by decide) (O₁ c)) $$ [Ho Ht0 Hl0]
  · isplitr; · iexact HR
    isplitl [Ho]; · iexact Ho
    isplitl [Ht0] <;> iassumption
  iintro Ho
  unfold O₁
  iapply (sig_step m K c _ 1 (dev2_eq c) (by decide) (O₂ c)) $$ [Ho Ht1 Hl1]
  · isplitr; · iexact HR
    isplitl [Ho]; · iexact Ho
    isplitl [Ht1] <;> iassumption
  iintro Ho
  unfold O₂
  iapply (sig_step m K c _ 2 (dev3_eq c) (by decide) (O₃ c)) $$ [Ho Ht2 Hl2]
  · isplitr; · iexact HR
    isplitl [Ho]; · iexact Ho
    isplitl [Ht2] <;> iassumption
  iintro Ho
  iapply (load1 c (xs1 m c)) $$ Hx; iintro Hx
  iapply (ret_step c _)
  iapply Hk
  isplitl [Ho] <;> iassumption

theorem part2_run (c : Dev nD) {Q : (Σ' (_ : FVec F S128x128 .f32) (_ : FVec F S4x128 .f32), FVec F S4x64x128 .f32) → sProp 𝕄} :
    iprop(pt c cc0_stg2_0 (xs2 m c) ∗ pt c cc0_stg3_0 (xs3 m c) ∗ pt c cc0_stg0_0 (xs0 m c) ∗ anyM c 0 0 ∗ anyD c 0 0)
      ⊢ iprop(((pt c cc0_stg2_0 (xs2 m c) ∗ pt c cc0_stg3_0 (xs3 m c) ∗ pt c cc0_stg0_0 (xs0 m c) ∗ owns (c : Thread nD τ) (mS 0 0) fullShare (msgC m c 0) ∗ owns (c : Thread nD τ) (dS 0 0) fullShare (denC m c 0)) -∗ Q ⟨k0_pay3 (k0_pay2 c), ownD0 m c, ownM0 m c⟩)
          -∗ WP c (k0_part2 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 (k0_pay1 (xs1 m c)) (k0_pay2 c)) Q) := by
  simp only [k0_part2_eq_skeleton]; unfold k0_part2_skel
  simp only [semSignalWord, semWaitWord, Prog.lift, Prog.bind_op, Prog.bind_ret, Prog.pure_eq_ret, wp_deviceId]
  iintro ⟨H2, H3, H0, HM, HD⟩ Hk
  iapply (loadK c 0 rfl (xs2 m c)) $$ H2; iintro H2
  iapply (loadV c 0 rfl (xs3 m c)) $$ H3; iintro H3
  iapply (loadX c 0 rfl (xs0 m c)) $$ H0; iintro H0
  iapply (fillM c 0 0 rfl rfl) $$ HM; iintro HM
  iapply (fillD c 0 0 rfl rfl) $$ HD; iintro HD
  iapply (ret_step c _)
  iapply Hk
  isplitl [H2]; · iexact H2
  isplitl [H3]; · iexact H3
  isplitl [H0]; · iexact H0
  isplitl [HM]; · iexact HM
  iexact HD

theorem part3_run (c : Dev nD) (v2 : BitVec 32) {Q : (Σ' (_ : BitVec 32), BitVec 32) → sProp 𝕄} :
    iprop(records m K ∗ levAts L lv ∗ owesX c (O₃ c) ∗ cred (tallyAt (barCell c) () 3) ∗ atPos ER (barCell c) 0 ∅ 0
        ∗ owns (c : Thread nD τ) (mS 0 0) (shq 0) (msgC m c 0) ∗ owns (c : Thread nD τ) (dS 0 0) (shq 0) (denC m c 0) ∗ stk c 0 0)
      ⊢ iprop((∀ v v', (owesX c (owedL c (xfers.drop 2)) ∗ semVal (barCell c) 0 ∗ (anyM (pe c 0) (Fin.succ 0) 1 ∗ anyD (pe c 0) (Fin.succ 0) 1) ∗ land (pe c 1) 1 ∗ land (pe c 2) 2
            ∗ cred (tallyAt (cell c 0 0 0) () (Ng 0)) ∗ cred (tallyAt (cell c 2 0 0) () (Ng 2))) -∗ Q ⟨v, v'⟩)
          -∗ WP c (k0_part3 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c v2 (SemArray.scalar (sig.barrier 0 rfl))) Q) := by
  simp only [k0_part3_eq_skeleton]; unfold k0_part3_skel
  simp only [semSignalWord, semWaitWord, Prog.lift, Prog.bind_op, Prog.bind_ret, Prog.pure_eq_ret]
  iintro ⟨#HR, #HL, Ho, Hc, Hat, Hm, Hd, Hs⟩ Hk
  iapply (bar_step m K c (by decide)) $$ [Ho Hc Hat]
  · isplitr; · iexact HR
    isplitr; · iexact HL
    isplitl [Ho]; · iexact Ho
    isplitl [Hc] <;> iassumption
  iintro ⟨Ho, Hz, Hl0, Hl1, Hl2⟩
  unfold land
  icases Hl0 with ⟨HM, HD, HM', HD'⟩
  iapply (send_pair m K c _ _ 0 0 (xfers.drop 2) (dev4_eq c) (dev5_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (ret_step c _)
  iapply Hk
  isplitl [Ho]; · iexact Ho
  isplitl [Hz]; · iexact Hz
  isplitl [HM' HD']; · isplitl [HM'] <;> iassumption
  isplitl [Hl1]; · iexact Hl1
  isplitl [Hl2]; · iexact Hl2
  isplitl [Hc0] <;> iassumption

theorem part4_run (c : Dev nD) (ts : List (Fin 4 × Fin 2 × Fin 3)) (v2 w : BitVec 32) {Q : (Σ' (_ : BitVec 32), BitVec 32) → sProp 𝕄} :
    iprop(records m K ∗ owesX c (owedL c ((1, 0, 1) :: (3, 0, 1) :: ts)) ∗ owns (c : Thread nD τ) (mS 0 0) (shq 1) (msgC m c 0)
        ∗ owns (c : Thread nD τ) (dS 0 0) (shq 1) (denC m c 0) ∗ anyM (pe c 1) (Fin.succ 1) 0 ∗ anyD (pe c 1) (Fin.succ 1) 0 ∗ stk c 0 1)
      ⊢ iprop((∀ v v', (owesX c (owedL c ts) ∗ cred (tallyAt (cell c 0 0 1) () (Ng 0)) ∗ cred (tallyAt (cell c 2 0 1) () (Ng 2))) -∗ Q ⟨v, v'⟩)
          -∗ WP c (k0_part4 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c v2 w) Q) := by
  simp only [k0_part4_eq_skeleton]; unfold k0_part4_skel
  simp only [semSignalWord, semWaitWord, Prog.lift, Prog.bind_op, Prog.bind_ret, Prog.pure_eq_ret, wp_deviceId]
  iintro ⟨#HR, Ho, Hm, Hd, HM, HD, Hs⟩ Hk
  iapply (send_pair m K c _ _ 0 1 ts (dev6_eq c) (dev7_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (ret_step c _)
  iapply Hk
  isplitl [Ho]; · iexact Ho
  isplitl [Hc0]; · iexact Hc0
  iexact Hc2

theorem part5_run (c : Dev nD) (ts : List (Fin 4 × Fin 2 × Fin 3)) (v2 : BitVec 32) {Q : FVec F S4x128x64 .bf16 → sProp 𝕄} :
    iprop(records m K ∗ owesX c (owedL c ((1, 0, 2) :: (3, 0, 2) :: ts)) ∗ owns (c : Thread nD τ) (mS 0 0) (shq 2) (msgC m c 0)
        ∗ owns (c : Thread nD τ) (dS 0 0) (shq 2) (denC m c 0) ∗ anyM (pe c 2) (Fin.succ 2) 0 ∗ anyD (pe c 2) (Fin.succ 2) 0 ∗ stk c 0 2 ∗ pt c cc0_stg2_0 (xs2 m c))
      ⊢ iprop(((owesX c (owedL c ts) ∗ cred (tallyAt (cell c 0 0 2) () (Ng 0)) ∗ cred (tallyAt (cell c 2 0 2) () (Ng 2)) ∗ pt c cc0_stg2_0 (xs2 m c)) -∗ Q (k0_pay9 (ldK 1 (xs2 m c))))
          -∗ WP c (k0_part5 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c v2) Q) := by
  simp only [k0_part5_eq_skeleton]; unfold k0_part5_skel
  simp only [semSignalWord, semWaitWord, Prog.lift, Prog.bind_op, Prog.bind_ret, Prog.pure_eq_ret, wp_deviceId]
  iintro ⟨#HR, Ho, Hm, Hd, HM, HD, Hs, H2⟩ Hk
  iapply (send_pair m K c _ _ 0 2 ts (dev8_eq c) (dev9_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (loadK c 1 rfl (xs2 m c)) $$ H2; iintro H2
  iapply (ret_step c _)
  iapply Hk
  isplitl [Ho]; · iexact Ho
  isplitl [Hc0]; · iexact Hc0
  isplitl [Hc2] <;> iassumption

theorem part6_run (c : Dev nD) (v2 : BitVec 32) {Q : (Σ' (_ : FVec F S4x128 .f32) (_ : FVec F S4x64x128 .f32) (_ : BitVec 32), BitVec 32) → sProp 𝕄} :
    iprop(pt c cc0_stg3_0 (xs3 m c) ∗ pt c cc0_stg0_0 (xs0 m c) ∗ anyM c 0 1 ∗ anyD c 0 1)
      ⊢ iprop((∀ v v', (pt c cc0_stg3_0 (xs3 m c) ∗ pt c cc0_stg0_0 (xs0 m c) ∗ owns (c : Thread nD τ) (mS 0 1) fullShare (msgC m c 1) ∗ owns (c : Thread nD τ) (dS 0 1) fullShare (denC m c 1)) -∗ Q ⟨ownD1 m c, ownM1 m c, v, v'⟩)
          -∗ WP c (k0_part6 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 v2 (k0_pay1 (xs1 m c)) (k0_pay3 (k0_pay2 c)) (k0_pay9 (ldK 1 (xs2 m c)))) Q) := by
  simp only [k0_part6_eq_skeleton]; unfold k0_part6_skel
  simp only [semSignalWord, semWaitWord, Prog.lift, Prog.bind_op, Prog.bind_ret, Prog.pure_eq_ret, wp_deviceId]
  iintro ⟨H3, H0, HM, HD⟩ Hk
  iapply (loadV c 1 rfl (xs3 m c)) $$ H3; iintro H3
  iapply (loadX c 1 rfl (xs0 m c)) $$ H0; iintro H0
  iapply (fillM c 0 1 rfl rfl) $$ HM; iintro HM
  iapply (fillD c 0 1 rfl rfl) $$ HD; iintro HD
  iapply (ret_step c _)
  iapply Hk
  isplitl [H3]; · iexact H3
  isplitl [H0]; · iexact H0
  isplitl [HM]; · iexact HM
  iexact HD

theorem part7_run (c : Dev nD) (ts : List (Fin 4 × Fin 2 × Fin 3)) (v2 w w' : BitVec 32) {Q : BitVec 32 → sProp 𝕄} :
    iprop(records m K ∗ owesX c (owedL c ((1, 1, 0) :: (3, 1, 0) :: ts)) ∗ owns (c : Thread nD τ) (mS 0 1) (shq 0) (msgC m c 1)
        ∗ owns (c : Thread nD τ) (dS 0 1) (shq 0) (denC m c 1) ∗ anyM (pe c 0) (Fin.succ 0) 1 ∗ anyD (pe c 0) (Fin.succ 0) 1 ∗ stk c 1 0)
      ⊢ iprop((∀ v, (owesX c (owedL c ts) ∗ cred (tallyAt (cell c 0 1 0) () (Ng 0)) ∗ cred (tallyAt (cell c 2 1 0) () (Ng 2))) -∗ Q v)
          -∗ WP c (k0_part7 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c v2 w w') Q) := by
  simp only [k0_part7_eq_skeleton]; unfold k0_part7_skel
  simp only [semSignalWord, semWaitWord, Prog.lift, Prog.bind_op, Prog.bind_ret, Prog.pure_eq_ret, wp_deviceId]
  iintro ⟨#HR, Ho, Hm, Hd, HM, HD, Hs⟩ Hk
  iapply (send_pair m K c _ _ 1 0 ts (dev10_eq c) (dev11_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (ret_step c _)
  iapply Hk
  isplitl [Ho]; · iexact Ho
  isplitl [Hc0]; · iexact Hc0
  iexact Hc2

theorem part8_run (c : Dev nD) (ts : List (Fin 4 × Fin 2 × Fin 3)) (v2 w : BitVec 32) {Q : BitVec 32 → sProp 𝕄} :
    iprop(records m K ∗ owesX c (owedL c ((1, 1, 1) :: (3, 1, 1) :: ts)) ∗ owns (c : Thread nD τ) (mS 0 1) (shq 1) (msgC m c 1)
        ∗ owns (c : Thread nD τ) (dS 0 1) (shq 1) (denC m c 1) ∗ anyM (pe c 1) (Fin.succ 1) 1 ∗ anyD (pe c 1) (Fin.succ 1) 1 ∗ stk c 1 1)
      ⊢ iprop((∀ v, (owesX c (owedL c ts) ∗ cred (tallyAt (cell c 0 1 1) () (Ng 0)) ∗ cred (tallyAt (cell c 2 1 1) () (Ng 2))) -∗ Q v)
          -∗ WP c (k0_part8 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c v2 w) Q) := by
  simp only [k0_part8_eq_skeleton]; unfold k0_part8_skel
  simp only [semSignalWord, semWaitWord, Prog.lift, Prog.bind_op, Prog.bind_ret, Prog.pure_eq_ret, wp_deviceId]
  iintro ⟨#HR, Ho, Hm, Hd, HM, HD, Hs⟩ Hk
  iapply (send_pair m K c _ _ 1 1 ts (dev12_eq c) (dev13_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (ret_step c _)
  iapply Hk
  isplitl [Ho]; · iexact Ho
  isplitl [Hc0]; · iexact Hc0
  iexact Hc2

theorem part9_run (c : Dev nD) (ts : List (Fin 4 × Fin 2 × Fin 3)) (w w' : BitVec 32) {Q : FVec F S256x512 .bf16 → sProp 𝕄} :
    iprop(records m K ∗ owesX c (owedL c ((1, 1, 2) :: (3, 1, 2) :: ts)) ∗ owns (c : Thread nD τ) (mS 0 1) (shq 2) (msgC m c 1)
        ∗ owns (c : Thread nD τ) (dS 0 1) (shq 2) (denC m c 1) ∗ anyM (pe c 2) (Fin.succ 2) 1 ∗ anyD (pe c 2) (Fin.succ 2) 1 ∗ stk c 1 2 ∗ pt c cc0_stg4_0 (xs4 m c))
      ⊢ iprop(((owesX c (owedL c ts) ∗ cred (tallyAt (cell c 0 1 2) () (Ng 0)) ∗ cred (tallyAt (cell c 2 1 2) () (Ng 2)) ∗ pt c cc0_stg4_0 (xs4 m c)) -∗ Q (k0_pay15 (xs4 m c)))
          -∗ WP c (k0_part9 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 c w w') Q) := by
  simp only [k0_part9_eq_skeleton]; unfold k0_part9_skel
  simp only [semSignalWord, semWaitWord, Prog.lift, Prog.bind_op, Prog.bind_ret, Prog.pure_eq_ret, wp_deviceId]
  iintro ⟨#HR, Ho, Hm, Hd, HM, HD, Hs, H4⟩ Hk
  iapply (send_pair m K c _ _ 1 2 ts (dev14_eq c) (dev15_eq c) rfl rfl rfl rfl rfl rfl rfl rfl) $$ [Ho Hm Hd HM HD Hs]
  · isplitr; · iexact HR
    isplitl [Ho]; · iexact Ho
    isplitl [Hm]; · iexact Hm
    isplitl [Hd]; · iexact Hd
    isplitl [HM]; · iexact HM
    isplitl [HD] <;> iassumption
  iintro ⟨Ho, Hc0, Hc2⟩
  iapply (load4 c (xs4 m c)) $$ H4; iintro H4
  iapply (ret_step c _)
  iapply Hk
  isplitl [Ho]; · iexact Ho
  isplitl [Hc0]; · iexact Hc0
  isplitl [Hc2] <;> iassumption

theorem part10_run (c : Dev nD) (w w' : BitVec 32) {Q : (Σ' (_ : FVec F S4x64x128 .f32), FVec F S4x128 .f32) → sProp 𝕄} :
    iprop(records m K ∗ owesX c 0 ∗ tk c 1 0 0 ∗ tk c 3 0 0)
      ⊢ iprop(((owesX c 0 ∗ semVal (cell c 1 0 0) 0 ∗ semVal (cell c 3 0 0) 0 ∗ xPay m c 1 0 0 ∗ xPay m c 3 0 0) -∗ Q ⟨k0_pay16 (ownM0 m c) (inM m c 0 0), k0_pay17 (ownD0 m c) (inD m c 0 0)⟩)
          -∗ WP c (k0_part10 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 (ownD0 m c) (ownM0 m c) w w') Q) := by
  simp only [k0_part10_eq_skeleton]; unfold k0_part10_skel
  simp only [semSignalWord, semWaitWord, Prog.lift, Prog.bind_op, Prog.bind_ret, Prog.pure_eq_ret, wp_deviceId]
  iintro ⟨#HR, Ho, Ht1, Ht3⟩ Hk
  iapply (waitM m K c 1 0 0 1 rfl rfl rfl) $$ [Ho Ht1]
  · isplitr; · iexact HR
    isplitl [Ho] <;> iassumption
  iintro ⟨Ho, Hz1, HpM⟩
  iapply (waitD m K c 3 0 0 1 rfl rfl rfl) $$ [Ho Ht3]
  · isplitr; · iexact HR
    isplitl [Ho] <;> iassumption
  iintro ⟨Ho, Hz3, HpD⟩
  iapply (recvM m c 0 0 rfl) $$ HpM; iintro HpM
  iapply (recvD m c 0 0 rfl) $$ HpD; iintro HpD
  iapply (ret_step c _)
  iapply Hk
  isplitl [Ho]; · iexact Ho
  isplitl [Hz1]; · iexact Hz1
  isplitl [Hz3]; · iexact Hz3
  isplitl [HpM]; · iexact HpM
  iexact HpD

theorem part11_run (c : Dev nD) (w w' : BitVec 32) {Q : (Σ' (_ : FVec F S4x64x128 .f32), FVec F S4x128 .f32) → sProp 𝕄} :
    iprop(records m K ∗ owesX c 0 ∗ tk c 1 0 1 ∗ tk c 3 0 1)
      ⊢ iprop(((owesX c 0 ∗ semVal (cell c 1 0 1) 0 ∗ semVal (cell c 3 0 1) 0 ∗ xPay m c 1 0 1 ∗ xPay m c 3 0 1) -∗ Q ⟨sumM0 m c, sumD0 m c⟩)
          -∗ WP c (k0_part11 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 w w' (k0_pay16 (ownM0 m c) (inM m c 0 0)) (k0_pay17 (ownD0 m c) (inD m c 0 0))) Q) := by
  simp only [k0_part11_eq_skeleton]; unfold k0_part11_skel
  simp only [semSignalWord, semWaitWord, Prog.lift, Prog.bind_op, Prog.bind_ret, Prog.pure_eq_ret, wp_deviceId]
  iintro ⟨#HR, Ho, Ht1, Ht3⟩ Hk
  iapply (waitM m K c 1 0 1 2 rfl rfl rfl) $$ [Ho Ht1]
  · isplitr; · iexact HR
    isplitl [Ho] <;> iassumption
  iintro ⟨Ho, Hz1, HpM⟩
  iapply (waitD m K c 3 0 1 2 rfl rfl rfl) $$ [Ho Ht3]
  · isplitr; · iexact HR
    isplitl [Ho] <;> iassumption
  iintro ⟨Ho, Hz3, HpD⟩
  iapply (recvM m c 0 1 rfl) $$ HpM; iintro HpM
  iapply (recvD m c 0 1 rfl) $$ HpD; iintro HpD
  iapply (ret_step c _)
  iapply Hk
  isplitl [Ho]; · iexact Ho
  isplitl [Hz1]; · iexact Hz1
  isplitl [Hz3]; · iexact Hz3
  isplitl [HpM]; · iexact HpM
  iexact HpD

theorem part12_run (c : Dev nD) (w : BitVec 32) {Q : (Σ' (_ : FVec F S4x64x128 .f32) (_ : FVec F S128x512 .f32), FVec F S64x128 .f32) → sProp 𝕄} :
    iprop(records m K ∗ owesX c 0 ∗ tk c 1 0 2 ∗ tk c 3 0 2)
      ⊢ iprop(((owesX c 0 ∗ semVal (cell c 1 0 2) 0 ∗ semVal (cell c 3 0 2) 0 ∗ xPay m c 1 0 2 ∗ xPay m c 3 0 2) -∗ Q ⟨k0_pay20 (sumM0 m c) (sumD0 m c) (inM m c 0 2) (inD m c 0 2), k0_pay21 (k0_pay15 (xs4 m c)) (sumM0 m c) (sumD0 m c) (inM m c 0 2) (inD m c 0 2), k0_pay22 (sumM0 m c) (sumD0 m c) (inM m c 0 2) (inD m c 0 2)⟩)
          -∗ WP c (k0_part12 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 w (k0_pay15 (xs4 m c)) (sumM0 m c) (sumD0 m c)) Q) := by
  simp only [k0_part12_eq_skeleton]; unfold k0_part12_skel
  simp only [semSignalWord, semWaitWord, Prog.lift, Prog.bind_op, Prog.bind_ret, Prog.pure_eq_ret, wp_deviceId]
  iintro ⟨#HR, Ho, Ht1, Ht3⟩ Hk
  iapply (waitM m K c 1 0 2 3 rfl rfl rfl) $$ [Ho Ht1]
  · isplitr; · iexact HR
    isplitl [Ho] <;> iassumption
  iintro ⟨Ho, Hz1, HpM⟩
  iapply (waitD m K c 3 0 2 3 rfl rfl rfl) $$ [Ho Ht3]
  · isplitr; · iexact HR
    isplitl [Ho] <;> iassumption
  iintro ⟨Ho, Hz3, HpD⟩
  iapply (recvM m c 0 2 rfl) $$ HpM; iintro HpM
  iapply (recvD m c 0 2 rfl) $$ HpD; iintro HpD
  iapply (ret_step c _)
  iapply Hk
  isplitl [Ho]; · iexact Ho
  isplitl [Hz1]; · iexact Hz1
  isplitl [Hz3]; · iexact Hz3
  isplitl [HpM]; · iexact HpM
  iexact HpD

theorem part13_run (c : Dev nD) (w : BitVec 32) (f : (cc0_stg5_0 : Ref sig .tc).ty.Contents (Elt F)) {Q : PUnit → sProp 𝕄} :
    iprop(records m K ∗ owesX c 0 ∗ pt c cc0_stg5_0 f ∗ tk c 1 1 0)
      ⊢ iprop(((owesX c 0 ∗ pt c cc0_stg5_0 (wrO 0 f (res0 m c)) ∗ semVal (cell c 1 1 0) 0 ∗ xPay m c 1 1 0) -∗ Q ⟨⟩)
          -∗ WP c (k0_part13 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 w (k0_pay15 (xs4 m c)) (k0_pay20 (sumM0 m c) (sumD0 m c) (inM m c 0 2) (inD m c 0 2)) (k0_pay21 (k0_pay15 (xs4 m c)) (sumM0 m c) (sumD0 m c) (inM m c 0 2) (inD m c 0 2)) (k0_pay22 (sumM0 m c) (sumD0 m c) (inM m c 0 2) (inD m c 0 2))) Q) := by
  simp only [k0_part13_eq_skeleton]; unfold k0_part13_skel
  simp only [semSignalWord, semWaitWord, Prog.lift, Prog.bind_op, Prog.bind_ret, Prog.pure_eq_ret, wp_deviceId]
  iintro ⟨#HR, Ho, H5, Ht⟩ Hk
  iapply (wp_load 𝒱₀ (c : Thread nD τ) none Set.univ (m := (Memref.whole cc0_stg5_0 : Memref sig .tc .vmem S2x128x512 .f32)) (Finset.subset_univ _)) $$ H5; iintro H5
  iapply (wp_store 𝒱₀ (c : Thread nD τ) none Set.univ (m := oM) (r := oRect 0) (Mk := Finset.univ) (Finset.subset_univ _)) $$ H5; iintro H5
  iapply (waitM m K c 1 1 0 1 rfl rfl rfl) $$ [Ho Ht]
  · isplitr; · iexact HR
    isplitl [Ho] <;> iassumption
  iintro ⟨Ho, Hz, Hp⟩
  iapply (ret_step c _)
  iapply Hk
  isplitl [Ho]; · iexact Ho
  isplitl [H5]; · iexact H5
  isplitl [Hz]; · iexact Hz
  iexact Hp

theorem part14_run (c : Dev nD) (w : BitVec 32) {Q : (Σ' (_ : FVec F S4x64x128 .f32), FVec F S4x128 .f32) → sProp 𝕄} :
    iprop(records m K ∗ owesX c 0 ∗ xPay m c 1 1 0 ∗ tk c 3 1 0 ∗ tk c 1 1 1)
      ⊢ iprop(((owesX c 0 ∗ semVal (cell c 3 1 0) 0 ∗ semVal (cell c 1 1 1) 0 ∗ xPay m c 1 1 0 ∗ xPay m c 3 1 0 ∗ xPay m c 1 1 1) -∗ Q ⟨k0_pay24 (ownM1 m c) (inM m c 1 0), k0_pay25 (ownD1 m c) (inD m c 1 0)⟩)
          -∗ WP c (k0_part14 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 (ownD1 m c) (ownM1 m c) w) Q) := by
  simp only [k0_part14_eq_skeleton]; unfold k0_part14_skel
  simp only [semSignalWord, semWaitWord, Prog.lift, Prog.bind_op, Prog.bind_ret, Prog.pure_eq_ret, wp_deviceId]
  iintro ⟨#HR, Ho, HpM, Ht3, Ht1⟩ Hk
  iapply (waitD m K c 3 1 0 1 rfl rfl rfl) $$ [Ho Ht3]
  · isplitr; · iexact HR
    isplitl [Ho] <;> iassumption
  iintro ⟨Ho, Hz3, HpD⟩
  iapply (recvM m c 1 0 rfl) $$ HpM; iintro HpM
  iapply (recvD m c 1 0 rfl) $$ HpD; iintro HpD
  iapply (waitM m K c 1 1 1 2 rfl rfl rfl) $$ [Ho Ht1]
  · isplitr; · iexact HR
    isplitl [Ho] <;> iassumption
  iintro ⟨Ho, Hz1, HpN⟩
  iapply (ret_step c _)
  iapply Hk
  isplitl [Ho]; · iexact Ho
  isplitl [Hz3]; · iexact Hz3
  isplitl [Hz1]; · iexact Hz1
  isplitl [HpM]; · iexact HpM
  isplitl [HpD]; · iexact HpD
  iexact HpN

theorem part15_run (c : Dev nD) (w w' : BitVec 32) {Q : (Σ' (_ : FVec F S4x64x128 .f32), FVec F S4x128 .f32) → sProp 𝕄} :
    iprop(records m K ∗ owesX c 0 ∗ xPay m c 1 1 1 ∗ tk c 3 1 1 ∗ tk c 1 1 2)
      ⊢ iprop(((owesX c 0 ∗ semVal (cell c 3 1 1) 0 ∗ semVal (cell c 1 1 2) 0 ∗ xPay m c 1 1 1 ∗ xPay m c 3 1 1 ∗ xPay m c 1 1 2) -∗ Q ⟨sumM1 m c, sumD1 m c⟩)
          -∗ WP c (k0_part15 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 w w' (k0_pay24 (ownM1 m c) (inM m c 1 0)) (k0_pay25 (ownD1 m c) (inD m c 1 0))) Q) := by
  simp only [k0_part15_eq_skeleton]; unfold k0_part15_skel
  simp only [semSignalWord, semWaitWord, Prog.lift, Prog.bind_op, Prog.bind_ret, Prog.pure_eq_ret, wp_deviceId]
  iintro ⟨#HR, Ho, HpM, Ht3, Ht1⟩ Hk
  iapply (waitD m K c 3 1 1 2 rfl rfl rfl) $$ [Ho Ht3]
  · isplitr; · iexact HR
    isplitl [Ho] <;> iassumption
  iintro ⟨Ho, Hz3, HpD⟩
  iapply (recvM m c 1 1 rfl) $$ HpM; iintro HpM
  iapply (recvD m c 1 1 rfl) $$ HpD; iintro HpD
  iapply (waitM m K c 1 1 2 3 rfl rfl rfl) $$ [Ho Ht1]
  · isplitr; · iexact HR
    isplitl [Ho] <;> iassumption
  iintro ⟨Ho, Hz1, HpN⟩
  iapply (ret_step c _)
  iapply Hk
  isplitl [Ho]; · iexact Ho
  isplitl [Hz3]; · iexact Hz3
  isplitl [Hz1]; · iexact Hz1
  isplitl [HpM]; · iexact HpM
  isplitl [HpD]; · iexact HpD
  iexact HpN

theorem part16_run (c : Dev nD) (w : BitVec 32) {Q : (Σ' (_ : FVec F S128x512 .f32), FVec F S128x512 .f32) → sProp 𝕄} :
    iprop(records m K ∗ owesX c 0 ∗ xPay m c 1 1 2 ∗ tk c 3 1 2)
      ⊢ iprop(((owesX c 0 ∗ semVal (cell c 3 1 2) 0 ∗ xPay m c 1 1 2 ∗ xPay m c 3 1 2) -∗ Q ⟨k0_pay29 (k0_pay15 (xs4 m c)) (sumM1 m c) (sumD1 m c) (inM m c 1 2) (inD m c 1 2), k0_pay30 (k0_pay15 (xs4 m c)) (sumM1 m c) (sumD1 m c) (inM m c 1 2) (inD m c 1 2)⟩)
          -∗ WP c (k0_part16 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 w (k0_pay15 (xs4 m c)) (sumM1 m c) (sumD1 m c)) Q) := by
  simp only [k0_part16_eq_skeleton]; unfold k0_part16_skel
  simp only [semSignalWord, semWaitWord, Prog.lift, Prog.bind_op, Prog.bind_ret, Prog.pure_eq_ret, wp_deviceId]
  iintro ⟨#HR, Ho, HpM, Ht3⟩ Hk
  iapply (waitD m K c 3 1 2 3 rfl rfl rfl) $$ [Ho Ht3]
  · isplitr; · iexact HR
    isplitl [Ho] <;> iassumption
  iintro ⟨Ho, Hz3, HpD⟩
  iapply (recvM m c 1 2 rfl) $$ HpM; iintro HpM
  iapply (recvD m c 1 2 rfl) $$ HpD; iintro HpD
  iapply (ret_step c _)
  iapply Hk
  isplitl [Ho]; · iexact Ho
  isplitl [Hz3]; · iexact Hz3
  isplitl [HpM]; · iexact HpM
  iexact HpD

theorem part17_run (c : Dev nD) (f : (cc0_stg5_0 : Ref sig .tc).ty.Contents (Elt F)) {Q : PUnit → sProp 𝕄} :
    iprop(records m K ∗ owesX c 0 ∗ pt c cc0_stg5_0 f ∗ tk c 0 0 0 ∗ tk c 0 0 1)
      ⊢ iprop(((owesX c 0 ∗ pt c cc0_stg5_0 (wrO 1 f (res1 m c)) ∗ semVal (cell c 0 0 0) 0 ∗ semVal (cell c 0 0 1) 0 ∗ xPay m c 0 0 0 ∗ xPay m c 0 0 1) -∗ Q ⟨⟩)
          -∗ WP c (k0_part17 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5 (k0_pay29 (k0_pay15 (xs4 m c)) (sumM1 m c) (sumD1 m c) (inM m c 1 2) (inD m c 1 2)) (k0_pay30 (k0_pay15 (xs4 m c)) (sumM1 m c) (sumD1 m c) (inM m c 1 2) (inD m c 1 2))) Q) := by
  simp only [k0_part17_eq_skeleton]; unfold k0_part17_skel
  simp only [semSignalWord, semWaitWord, Prog.lift, Prog.bind_op, Prog.bind_ret, Prog.pure_eq_ret, wp_deviceId]
  iintro ⟨#HR, Ho, H5, Ht, Ht'⟩ Hk
  iapply (wp_load 𝒱₀ (c : Thread nD τ) none Set.univ (m := (Memref.whole cc0_stg5_0 : Memref sig .tc .vmem S2x128x512 .f32)) (Finset.subset_univ _)) $$ H5; iintro H5
  iapply (wp_store 𝒱₀ (c : Thread nD τ) none Set.univ (m := oM) (r := oRect 1) (Mk := Finset.univ) (Finset.subset_univ _)) $$ H5; iintro H5
  iapply (waitM m K c 0 0 0 0 rfl rfl rfl) $$ [Ho Ht]
  · isplitr; · iexact HR
    isplitl [Ho] <;> iassumption
  iintro ⟨Ho, Hz, Hp⟩
  iapply (waitM m K c 0 0 1 0 rfl rfl rfl) $$ [Ho Ht']
  · isplitr; · iexact HR
    isplitl [Ho] <;> iassumption
  iintro ⟨Ho, Hz', Hp'⟩
  iapply (ret_step c _)
  iapply Hk
  isplitl [Ho]; · iexact Ho
  isplitl [H5]; · iexact H5
  isplitl [Hz]; · iexact Hz
  isplitl [Hz']; · iexact Hz'
  isplitl [Hp]; · iexact Hp
  iexact Hp'

theorem part18_run (c : Dev nD) {Q : PUnit → sProp 𝕄} :
    iprop(records m K ∗ owesX c 0 ∗ tk c 0 0 2 ∗ tk c 2 0 0 ∗ tk c 2 0 1)
      ⊢ iprop(((owesX c 0 ∗ semVal (cell c 0 0 2) 0 ∗ semVal (cell c 2 0 0) 0 ∗ semVal (cell c 2 0 1) 0 ∗ xPay m c 0 0 2 ∗ xPay m c 2 0 0 ∗ xPay m c 2 0 1) -∗ Q ⟨⟩)
          -∗ WP c (k0_part18 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) Q) := by
  simp only [k0_part18_eq_skeleton]; unfold k0_part18_skel
  simp only [semSignalWord, semWaitWord, Prog.lift, Prog.bind_op, Prog.bind_ret, Prog.pure_eq_ret, wp_deviceId]
  iintro ⟨#HR, Ho, Ht002, Ht200, Ht201⟩ Hk
  iapply (waitM m K c 0 0 2 0 rfl rfl rfl) $$ [Ho Ht002]
  · isplitr; · iexact HR
    isplitl [Ho] <;> iassumption
  iintro ⟨Ho, Hz002, Hp002⟩
  iapply (waitD m K c 2 0 0 0 rfl rfl rfl) $$ [Ho Ht200]
  · isplitr; · iexact HR
    isplitl [Ho] <;> iassumption
  iintro ⟨Ho, Hz200, Hp200⟩
  iapply (waitD m K c 2 0 1 0 rfl rfl rfl) $$ [Ho Ht201]
  · isplitr; · iexact HR
    isplitl [Ho] <;> iassumption
  iintro ⟨Ho, Hz201, Hp201⟩
  iapply (ret_step c _)
  iapply Hk
  isplitl [Ho]; · iexact Ho
  isplitl [Hz002]; · iexact Hz002
  isplitl [Hz200]; · iexact Hz200
  isplitl [Hz201]; · iexact Hz201
  isplitl [Hp002]; · iexact Hp002
  isplitl [Hp200]; · iexact Hp200
  iexact Hp201

theorem part19_run (c : Dev nD) {Q : PUnit → sProp 𝕄} :
    iprop(records m K ∗ owesX c 0 ∗ tk c 2 0 2 ∗ tk c 0 1 0 ∗ tk c 0 1 1)
      ⊢ iprop(((owesX c 0 ∗ semVal (cell c 2 0 2) 0 ∗ semVal (cell c 0 1 0) 0 ∗ semVal (cell c 0 1 1) 0 ∗ xPay m c 2 0 2 ∗ xPay m c 0 1 0 ∗ xPay m c 0 1 1) -∗ Q ⟨⟩)
          -∗ WP c (k0_part19 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) Q) := by
  simp only [k0_part19_eq_skeleton]; unfold k0_part19_skel
  simp only [semSignalWord, semWaitWord, Prog.lift, Prog.bind_op, Prog.bind_ret, Prog.pure_eq_ret, wp_deviceId]
  iintro ⟨#HR, Ho, Ht202, Ht010, Ht011⟩ Hk
  iapply (waitD m K c 2 0 2 0 rfl rfl rfl) $$ [Ho Ht202]
  · isplitr; · iexact HR
    isplitl [Ho] <;> iassumption
  iintro ⟨Ho, Hz202, Hp202⟩
  iapply (waitM m K c 0 1 0 0 rfl rfl rfl) $$ [Ho Ht010]
  · isplitr; · iexact HR
    isplitl [Ho] <;> iassumption
  iintro ⟨Ho, Hz010, Hp010⟩
  iapply (waitM m K c 0 1 1 0 rfl rfl rfl) $$ [Ho Ht011]
  · isplitr; · iexact HR
    isplitl [Ho] <;> iassumption
  iintro ⟨Ho, Hz011, Hp011⟩
  iapply (ret_step c _)
  iapply Hk
  isplitl [Ho]; · iexact Ho
  isplitl [Hz202]; · iexact Hz202
  isplitl [Hz010]; · iexact Hz010
  isplitl [Hz011]; · iexact Hz011
  isplitl [Hp202]; · iexact Hp202
  isplitl [Hp010]; · iexact Hp010
  iexact Hp011

theorem part20_run (c : Dev nD) {Q : PUnit → sProp 𝕄} :
    iprop(records m K ∗ owesX c 0 ∗ tk c 0 1 2 ∗ tk c 2 1 0 ∗ tk c 2 1 1)
      ⊢ iprop(((owesX c 0 ∗ semVal (cell c 0 1 2) 0 ∗ semVal (cell c 2 1 0) 0 ∗ semVal (cell c 2 1 1) 0 ∗ xPay m c 0 1 2 ∗ xPay m c 2 1 0 ∗ xPay m c 2 1 1) -∗ Q ⟨⟩)
          -∗ WP c (k0_part20 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) Q) := by
  simp only [k0_part20_eq_skeleton]; unfold k0_part20_skel
  simp only [semSignalWord, semWaitWord, Prog.lift, Prog.bind_op, Prog.bind_ret, Prog.pure_eq_ret, wp_deviceId]
  iintro ⟨#HR, Ho, Ht012, Ht210, Ht211⟩ Hk
  iapply (waitM m K c 0 1 2 0 rfl rfl rfl) $$ [Ho Ht012]
  · isplitr; · iexact HR
    isplitl [Ho] <;> iassumption
  iintro ⟨Ho, Hz012, Hp012⟩
  iapply (waitD m K c 2 1 0 0 rfl rfl rfl) $$ [Ho Ht210]
  · isplitr; · iexact HR
    isplitl [Ho] <;> iassumption
  iintro ⟨Ho, Hz210, Hp210⟩
  iapply (waitD m K c 2 1 1 0 rfl rfl rfl) $$ [Ho Ht211]
  · isplitr; · iexact HR
    isplitl [Ho] <;> iassumption
  iintro ⟨Ho, Hz211, Hp211⟩
  iapply (ret_step c _)
  iapply Hk
  isplitl [Ho]; · iexact Ho
  isplitl [Hz012]; · iexact Hz012
  isplitl [Hz210]; · iexact Hz210
  isplitl [Hz211]; · iexact Hz211
  isplitl [Hp012]; · iexact Hp012
  isplitl [Hp210]; · iexact Hp210
  iexact Hp211

end Cert.Exchange

end
-- ==== Proof.Body.lean ====
/-
# One device's run of the kernel body: its parts in sequence
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 25 → ℕ)

/-! ## Slots in other forms -/

theorem bind_step (c : Dev nD) {α β : Type} {p : Prog (TpuEff nD τ sig (Elt F) Λ₀ .tc) β} {k : β → Prog (TpuEff nD τ sig (Elt F) Λ₀ .tc) α}
    {Q : α → sProp 𝕄} : WP c p (fun a => WP c (k a) Q) ⊢ WP c (p >>= k) Q := by
  show wp frame (wpE (defs₀ (F := F)) 𝒱₀ (c : Thread nD τ) none) Set.univ p
      (fun a => wp frame (wpE (defs₀ (F := F)) 𝒱₀ (c : Thread nD τ) none) Set.univ (k a) Q)
    ⊢ wp frame (wpE (defs₀ (F := F)) 𝒱₀ (c : Thread nD τ) none) Set.univ (p >>= k) Q
  rw [wp_bind]

theorem owes_cast (c : Dev nD) {O O' : CellTallies nD τ sig Unit} (h : O = O') : (owesX c O : sProp 𝕄) ⊢ owesX c O' := by rw [h]

theorem land_open (c : Dev nD) (o : Fin 3) :
    (land c o : sProp 𝕄) ⊢ iprop(anyM c o.succ 0 ∗ anyD c o.succ 0 ∗ anyM c o.succ 1 ∗ anyD c o.succ 1) := by unfold land; exact Entails.refl _

theorem lend {c : Dev nD} {sh : Shape} {e : EltTy} (w : Memref sig .tc .vmem sh e) (X : sh.Idx → Elt F e) :
    (owns (c : Thread nD τ) w fullShare X : sProp 𝕄)
      ⊢ iprop(owns (c : Thread nD τ) w (shq 0) X ∗ owns (c : Thread nD τ) w (shq 1) X ∗ owns (c : Thread nD τ) w (shq 2) X) := by
  iintro H
  ihave H := (owns_halves (c : Thread nD τ) w fullShare X).1 $$ H
  icases H with ⟨H0, H⟩
  ihave H := (owns_halves (c : Thread nD τ) w fullShare.right X).1 $$ H
  icases H with ⟨H1, H2⟩
  isplitl [H0]; · iexact H0
  isplitl [H1]; · iexact H1
  iexact H2

theorem unlend {c : Dev nD} {sh : Shape} {e : EltTy} (w : Memref sig .tc .vmem sh e) (X : sh.Idx → Elt F e) :
    iprop(owns (c : Thread nD τ) w (shq 0) X ∗ owns (c : Thread nD τ) w (shq 1) X ∗ owns (c : Thread nD τ) w (shq 2) X)
      ⊢ (owns (c : Thread nD τ) w fullShare X : sProp 𝕄) := by
  iintro ⟨H0, H1, H2⟩
  iapply (owns_halves (c : Thread nD τ) w fullShare X).2
  isplitl [H0]; · iexact H0
  iapply (owns_halves (c : Thread nD τ) w fullShare.right X).2
  isplitl [H1]; · iexact H1
  iexact H2

theorem owns_anyM (c : Dev nD) (j : Fin 4) (b : Fin 2) (X : bM (F := F)) : (owns (c : Thread nD τ) (mS j b) fullShare X : sProp 𝕄) ⊢ anyM c j b := by
  unfold owns anyM; iintro ⟨%f, -, H⟩; iexists f; iexact H
theorem owns_anyD (c : Dev nD) (j : Fin 4) (b : Fin 2) (X : bD (F := F)) : (owns (c : Thread nD τ) (dS j b) fullShare X : sProp 𝕄) ⊢ anyD c j b := by
  unfold owns anyD; iintro ⟨%f, -, H⟩; iexists f; iexact H

/-- The lent shares of an own slot come back as the slot. -/
theorem backM (c : Dev nD) (b : Fin 2) : iprop(xPay m c 0 b 0 ∗ xPay m c 0 b 1 ∗ xPay m c 0 b 2) ⊢ (anyM c 0 b : sProp 𝕄) :=
  (unlend (mS 0 b) (msgC m c b)).trans (owns_anyM c 0 b _)
theorem backD (c : Dev nD) (b : Fin 2) : iprop(xPay m c 2 b 0 ∗ xPay m c 2 b 1 ∗ xPay m c 2 b 2) ⊢ (anyD c 0 b : sProp 𝕄) :=
  (unlend (dS 0 b) (denC m c b)).trans (owns_anyD c 0 b _)

/-- The four received blocks of one offset leave their slots to the device. -/
theorem backL (c : Dev nD) (o : Fin 3) : iprop(xPay m c 1 0 o ∗ xPay m c 3 0 o ∗ xPay m c 1 1 o ∗ xPay m c 3 1 o) ⊢ (land c o : sProp 𝕄) := by
  unfold land
  show iprop(owns (c : Thread nD τ) (mS o.succ 0) fullShare (msgC m (pe c o.rev) 0) ∗ owns (c : Thread nD τ) (dS o.succ 0) fullShare (denC m (pe c o.rev) 0)
    ∗ owns (c : Thread nD τ) (mS o.succ 1) fullShare (msgC m (pe c o.rev) 1) ∗ owns (c : Thread nD τ) (dS o.succ 1) fullShare (denC m (pe c o.rev) 1)) ⊢ _
  iintro ⟨H0, H1, H2, H3⟩
  isplitl [H0]; · iapply (owns_anyM c o.succ 0 _) $$ H0
  isplitl [H1]; · iapply (owns_anyD c o.succ 0 _) $$ H1
  isplitl [H2]; · iapply (owns_anyM c o.succ 1 _) $$ H2
  iapply (owns_anyD c o.succ 1 _) $$ H3

theorem mk_tk (c : Dev nD) (g : Fin 4) (b : Fin 2) (o : Fin 3) :
    iprop(cred (tallyAt (cell c g b o) () (Ng g)) ∗ atPos ER (cell c g b o) 0 ∅ 0) ⊢ (tk c g b o : sProp 𝕄) := by unfold tk; exact Entails.refl _

/-! ## What a device starts and ends with -/

/-- A copy's share of the ghost state: its tokens, its send cells' positions, and what its receive waits take. -/
def copyG (c : Dev nD) (b : Fin 2) (o : Fin 3) : sProp 𝕄 :=
  iprop(stk c b o ∗ (atPos ER (cell c 0 b o) 0 ∅ 0 ∗ atPos ER (cell c 2 b o) 0 ∅ 0) ∗ tk c 1 b o ∗ tk c 3 b o)

def barG (c : Dev nD) : sProp 𝕄 :=
  iprop((cred (tallyAt (barCell c) () 3) ∗ atPos ER (barCell c) 0 ∅ 0)
    ∗ dutyTok ER (barCell (pe c 0)) 0 (Fin.rev 0) ∗ dutyTok ER (barCell (pe c 1)) 0 (Fin.rev 1) ∗ dutyTok ER (barCell (pe c 2)) 0 (Fin.rev 2))

def start (c : Dev nD) : sProp 𝕄 :=
  iprop(records m K ∗ levAts L lv ∗ barG c
    ∗ copyG c 0 0 ∗ copyG c 0 1 ∗ copyG c 0 2 ∗ copyG c 1 0 ∗ copyG c 1 1 ∗ copyG c 1 2)

def slots (c : Dev nD) : sProp 𝕄 :=
  iprop((anyM c 0 0 ∗ anyD c 0 0 ∗ anyM c 0 1 ∗ anyD c 0 1) ∗ land c 0 ∗ land c 1 ∗ land c 2)

/-- A copy's four cells at zero. -/
def zeroG (c : Dev nD) (b : Fin 2) (o : Fin 3) : sProp 𝕄 :=
  iprop(semVal (cell c 0 b o) 0 ∗ semVal (cell c 1 b o) 0 ∗ semVal (cell c 2 b o) 0 ∗ semVal (cell c 3 b o) 0)

def zeros (c : Dev nD) : sProp 𝕄 :=
  iprop(semVal (barCell c) 0 ∗ zeroG c 0 0 ∗ zeroG c 0 1 ∗ zeroG c 0 2 ∗ zeroG c 1 0 ∗ zeroG c 1 1 ∗ zeroG c 1 2)

def staged (c : Dev nD) : sProp 𝕄 :=
  iprop(pt c cc0_stg0_0 (xs0 m c) ∗ pt c cc0_stg1_0 (xs1 m c) ∗ pt c cc0_stg2_0 (xs2 m c) ∗ pt c cc0_stg3_0 (xs3 m c) ∗ pt c cc0_stg4_0 (xs4 m c))

/-! ## The run -/

set_option maxHeartbeats 4000000 in
theorem body_run (c : Dev nD) (f : (cc0_stg5_0 : Ref sig .tc).ty.Contents (Elt F)) {Q : PUnit → sProp 𝕄} :
    iprop(start m K c ∗ slots c ∗ owesX c (O₀ c) ∗ staged m c ∗ pt c cc0_stg5_0 f)
      ⊢ iprop(((slots c ∗ zeros c ∗ owesX c 0 ∗ staged m c ∗ pt c cc0_stg5_0 (outAt m c)) -∗ Q ⟨⟩)
          -∗ WP c (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) Q) := by
  simp only [cc0_body_eq_skeleton]; unfold cc0_body_skel
  simp only [Prog.lift, Prog.pure_eq_ret]
  unfold start barG copyG slots staged
  iintro ⟨⟨#HR, #HL, ⟨⟨Hcb, Hab⟩, Ht0, Ht1, Ht2⟩, ⟨S00, ⟨A000, A200⟩, T100, T300⟩, ⟨S01, ⟨A001, A201⟩, T101, T301⟩, ⟨S02, ⟨A002, A202⟩, T102, T302⟩, ⟨S10, ⟨A010, A210⟩, T110, T310⟩, ⟨S11, ⟨A011, A211⟩, T111, T311⟩, ⟨S12, ⟨A012, A212⟩, T112, T312⟩⟩, ⟨⟨M0, D0, M1, D1⟩, L0, L1, L2⟩, Ho, ⟨p0, p1, p2, p3, p4⟩, p5⟩ Hk
  ihave L0 := (Entails.of_eq (rfl : (land c 0 : sProp 𝕄) = land c (Fin.rev 2))) $$ L0
  ihave L1 := (Entails.of_eq (rfl : (land c 1 : sProp 𝕄) = land c (Fin.rev 1))) $$ L1
  ihave L2 := (Entails.of_eq (rfl : (land c 2 : sProp 𝕄) = land c (Fin.rev 0))) $$ L2
  iapply (bind_step c)
  iapply (part1_run m K c) $$ [Ho Ht0 Ht1 Ht2 L2 L1 L0 p1]
  · isplitr; · iexact HR
    isplitl [Ho]; · iexact Ho
    isplitl [Ht0 Ht1 Ht2]
    · isplitl [Ht0]; · iexact Ht0
      isplitl [Ht1]; · iexact Ht1
      iexact Ht2
    isplitl [L2 L1 L0]
    · isplitl [L2]; · iexact L2
      isplitl [L1]; · iexact L1
      iexact L0
    iexact p1
  iintro %v2 ⟨Ho, p1⟩
  iapply (bind_step c)
  iapply (part2_run m c) $$ [p2 p3 p0 M0 D0]
  · isplitl [p2]; · iexact p2
    isplitl [p3]; · iexact p3
    isplitl [p0]; · iexact p0
    isplitl [M0]; · iexact M0
    iexact D0
  iintro ⟨p2, p3, p0, M0, D0⟩
  ihave M0 := (lend (mS 0 0) (msgC m c 0)) $$ M0
  icases M0 with ⟨M00, M01, M02⟩
  ihave D0 := (lend (dS 0 0) (denC m c 0)) $$ D0
  icases D0 with ⟨D00, D01, D02⟩
  iapply (bind_step c)
  iapply (part3_run m K c v2) $$ [Ho Hcb Hab M00 D00 S00]
  · isplitr; · iexact HR
    isplitr; · iexact HL
    isplitl [Ho]; · iexact Ho
    isplitl [Hcb]; · iexact Hcb
    isplitl [Hab]; · iexact Hab
    isplitl [M00]; · iexact M00
    isplitl [D00]; · iexact D00
    iexact S00
  iintro %v65 %vc ⟨Ho, HB, ⟨X01, Y01⟩, N1, N2, C000, C200⟩
  ihave N1 := (land_open (pe c 1) 1) $$ N1
  icases N1 with ⟨X10, Y10, X11, Y11⟩
  ihave N2 := (land_open (pe c 2) 2) $$ N2
  icases N2 with ⟨X20, Y20, X21, Y21⟩
  ihave Ho := (owes_cast c (rfl : owedL c (xfers.drop 2) = owedL c ((1, 0, 1) :: (3, 0, 1) :: xfers.drop 4))) $$ Ho
  iapply (bind_step c)
  iapply (part4_run m K c (xfers.drop 4) v2 vc) $$ [Ho M01 D01 X10 Y10 S01]
  · isplitr; · iexact HR
    isplitl [Ho]; · iexact Ho
    isplitl [M01]; · iexact M01
    isplitl [D01]; · iexact D01
    isplitl [X10]; · iexact X10
    isplitl [Y10]; · iexact Y10
    iexact S01
  iintro %v87 %v109 ⟨Ho, C001, C201⟩
  ihave Ho := (owes_cast c (rfl : owedL c (xfers.drop 4) = owedL c ((1, 0, 2) :: (3, 0, 2) :: xfers.drop 6))) $$ Ho
  iapply (bind_step c)
  iapply (part5_run m K c (xfers.drop 6) v109) $$ [Ho M02 D02 X20 Y20 S02 p2]
  · isplitr; · iexact HR
    isplitl [Ho]; · iexact Ho
    isplitl [M02]; · iexact M02
    isplitl [D02]; · iexact D02
    isplitl [X20]; · iexact X20
    isplitl [Y20]; · iexact Y20
    isplitl [S02]; · iexact S02
    iexact p2
  iintro ⟨Ho, C002, C202, p2⟩
  iapply (bind_step c)
  iapply (part6_run m c v2) $$ [p3 p0 M1 D1]
  · isplitl [p3]; · iexact p3
    isplitl [p0]; · iexact p0
    isplitl [M1]; · iexact M1
    iexact D1
  iintro %v159 %v160 ⟨p3, p0, M1, D1⟩
  ihave M1 := (lend (mS 0 1) (msgC m c 1)) $$ M1
  icases M1 with ⟨M10, M11, M12⟩
  ihave D1 := (lend (dS 0 1) (denC m c 1)) $$ D1
  icases D1 with ⟨D10, D11, D12⟩
  ihave Ho := (owes_cast c (rfl : owedL c (xfers.drop 6) = owedL c ((1, 1, 0) :: (3, 1, 0) :: xfers.drop 8))) $$ Ho
  iapply (bind_step c)
  iapply (part7_run m K c (xfers.drop 8) v2 v159 v160) $$ [Ho M10 D10 X01 Y01 S10]
  · isplitr; · iexact HR
    isplitl [Ho]; · iexact Ho
    isplitl [M10]; · iexact M10
    isplitl [D10]; · iexact D10
    isplitl [X01]; · iexact X01
    isplitl [Y01]; · iexact Y01
    iexact S10
  iintro %v181 ⟨Ho, C010, C210⟩
  ihave Ho := (owes_cast c (rfl : owedL c (xfers.drop 8) = owedL c ((1, 1, 1) :: (3, 1, 1) :: xfers.drop 10))) $$ Ho
  iapply (bind_step c)
  iapply (part8_run m K c (xfers.drop 10) v2 v181) $$ [Ho M11 D11 X11 Y11 S11]
  · isplitr; · iexact HR
    isplitl [Ho]; · iexact Ho
    isplitl [M11]; · iexact M11
    isplitl [D11]; · iexact D11
    isplitl [X11]; · iexact X11
    isplitl [Y11]; · iexact Y11
    iexact S11
  iintro %v203 ⟨Ho, C011, C211⟩
  ihave Ho := (owes_cast c (rfl : owedL c (xfers.drop 10) = owedL c ((1, 1, 2) :: (3, 1, 2) :: xfers.drop 12))) $$ Ho
  iapply (bind_step c)
  iapply (part9_run m K c (xfers.drop 12) v65 v203) $$ [Ho M12 D12 X21 Y21 S12 p4]
  · isplitr; · iexact HR
    isplitl [Ho]; · iexact Ho
    isplitl [M12]; · iexact M12
    isplitl [D12]; · iexact D12
    isplitl [X21]; · iexact X21
    isplitl [Y21]; · iexact Y21
    isplitl [S12]; · iexact S12
    iexact p4
  iintro ⟨Ho, C012, C212, p4⟩
  ihave Ho := (owes_cast c (rfl : owedL c (xfers.drop 12) = 0)) $$ Ho
  iapply (bind_step c)
  iapply (part10_run m K c v65 v87) $$ [Ho T100 T300]
  · isplitr; · iexact HR
    isplitl [Ho]; · iexact Ho
    isplitl [T100]; · iexact T100
    iexact T300
  iintro ⟨Ho, Z100, Z300, P100, P300⟩
  iapply (bind_step c)
  iapply (part11_run m K c v87 v109) $$ [Ho T101 T301]
  · isplitr; · iexact HR
    isplitl [Ho]; · iexact Ho
    isplitl [T101]; · iexact T101
    iexact T301
  iintro ⟨Ho, Z101, Z301, P101, P301⟩
  iapply (bind_step c)
  iapply (part12_run m K c v109) $$ [Ho T102 T302]
  · isplitr; · iexact HR
    isplitl [Ho]; · iexact Ho
    isplitl [T102]; · iexact T102
    iexact T302
  iintro ⟨Ho, Z102, Z302, P102, P302⟩
  iapply (bind_step c)
  iapply (part13_run m K c v159 f) $$ [Ho p5 T110]
  · isplitr; · iexact HR
    isplitl [Ho]; · iexact Ho
    isplitl [p5]; · iexact p5
    iexact T110
  iintro ⟨Ho, p5, Z110, P110⟩
  iapply (bind_step c)
  iapply (part14_run m K c v181) $$ [Ho P110 T310 T111]
  · isplitr; · iexact HR
    isplitl [Ho]; · iexact Ho
    isplitl [P110]; · iexact P110
    isplitl [T310]; · iexact T310
    iexact T111
  iintro ⟨Ho, Z310, Z111, P110, P310, P111⟩
  iapply (bind_step c)
  iapply (part15_run m K c v181 v203) $$ [Ho P111 T311 T112]
  · isplitr; · iexact HR
    isplitl [Ho]; · iexact Ho
    isplitl [P111]; · iexact P111
    isplitl [T311]; · iexact T311
    iexact T112
  iintro ⟨Ho, Z311, Z112, P111, P311, P112⟩
  iapply (bind_step c)
  iapply (part16_run m K c v203) $$ [Ho P112 T312]
  · isplitr; · iexact HR
    isplitl [Ho]; · iexact Ho
    isplitl [P112]; · iexact P112
    iexact T312
  iintro ⟨Ho, Z312, P112, P312⟩
  ihave T000 := (mk_tk c 0 0 0) $$ [C000 A000]
  · isplitl [C000]; · iexact C000
    iexact A000
  ihave T001 := (mk_tk c 0 0 1) $$ [C001 A001]
  · isplitl [C001]; · iexact C001
    iexact A001
  ihave T002 := (mk_tk c 0 0 2) $$ [C002 A002]
  · isplitl [C002]; · iexact C002
    iexact A002
  ihave T010 := (mk_tk c 0 1 0) $$ [C010 A010]
  · isplitl [C010]; · iexact C010
    iexact A010
  ihave T011 := (mk_tk c 0 1 1) $$ [C011 A011]
  · isplitl [C011]; · iexact C011
    iexact A011
  ihave T012 := (mk_tk c 0 1 2) $$ [C012 A012]
  · isplitl [C012]; · iexact C012
    iexact A012
  ihave T200 := (mk_tk c 2 0 0) $$ [C200 A200]
  · isplitl [C200]; · iexact C200
    iexact A200
  ihave T201 := (mk_tk c 2 0 1) $$ [C201 A201]
  · isplitl [C201]; · iexact C201
    iexact A201
  ihave T202 := (mk_tk c 2 0 2) $$ [C202 A202]
  · isplitl [C202]; · iexact C202
    iexact A202
  ihave T210 := (mk_tk c 2 1 0) $$ [C210 A210]
  · isplitl [C210]; · iexact C210
    iexact A210
  ihave T211 := (mk_tk c 2 1 1) $$ [C211 A211]
  · isplitl [C211]; · iexact C211
    iexact A211
  ihave T212 := (mk_tk c 2 1 2) $$ [C212 A212]
  · isplitl [C212]; · iexact C212
    iexact A212
  iapply (bind_step c)
  iapply (part17_run m K c (wrO 0 f (res0 m c))) $$ [Ho p5 T000 T001]
  · isplitr; · iexact HR
    isplitl [Ho]; · iexact Ho
    isplitl [p5]; · iexact p5
    isplitl [T000]; · iexact T000
    iexact T001
  iintro ⟨Ho, p5, Z000, Z001, P000, P001⟩
  iapply (bind_step c)
  iapply (part18_run m K c) $$ [Ho T002 T200 T201]
  · isplitr; · iexact HR
    isplitl [Ho]; · iexact Ho
    isplitl [T002]; · iexact T002
    isplitl [T200]; · iexact T200
    iexact T201
  iintro ⟨Ho, Z002, Z200, Z201, P002, P200, P201⟩
  iapply (bind_step c)
  iapply (part19_run m K c) $$ [Ho T202 T010 T011]
  · isplitr; · iexact HR
    isplitl [Ho]; · iexact Ho
    isplitl [T202]; · iexact T202
    isplitl [T010]; · iexact T010
    iexact T011
  iintro ⟨Ho, Z202, Z010, Z011, P202, P010, P011⟩
  iapply (bind_step c)
  iapply (part20_run m K c) $$ [Ho T012 T210 T211]
  · isplitr; · iexact HR
    isplitl [Ho]; · iexact Ho
    isplitl [T012]; · iexact T012
    isplitl [T210]; · iexact T210
    iexact T211
  iintro ⟨Ho, Z012, Z210, Z211, P012, P210, P211⟩
  iapply (waitD m K c 2 1 2 0 rfl rfl rfl) $$ [Ho T212]
  · isplitr; · iexact HR
    isplitl [Ho] <;> iassumption
  iintro ⟨Ho, Z212, P212⟩
  iapply (ret_step c _)
  ihave M0 := (backM m c 0) $$ [P000 P001 P002]
  · isplitl [P000]; · iexact P000
    isplitl [P001]; · iexact P001
    iexact P002
  ihave D0 := (backD m c 0) $$ [P200 P201 P202]
  · isplitl [P200]; · iexact P200
    isplitl [P201]; · iexact P201
    iexact P202
  ihave M1 := (backM m c 1) $$ [P010 P011 P012]
  · isplitl [P010]; · iexact P010
    isplitl [P011]; · iexact P011
    iexact P012
  ihave D1 := (backD m c 1) $$ [P210 P211 P212]
  · isplitl [P210]; · iexact P210
    isplitl [P211]; · iexact P211
    iexact P212
  ihave L0 := (backL m c 0) $$ [P100 P300 P110 P310]
  · isplitl [P100]; · iexact P100
    isplitl [P300]; · iexact P300
    isplitl [P110]; · iexact P110
    iexact P310
  ihave L1 := (backL m c 1) $$ [P101 P301 P111 P311]
  · isplitl [P101]; · iexact P101
    isplitl [P301]; · iexact P301
    isplitl [P111]; · iexact P111
    iexact P311
  ihave L2 := (backL m c 2) $$ [P102 P302 P112 P312]
  · isplitl [P102]; · iexact P102
    isplitl [P302]; · iexact P302
    isplitl [P112]; · iexact P112
    iexact P312
  ihave p5 := (Entails.of_eq (congrArg (fun g => (pt c cc0_stg5_0 g : sProp 𝕄)) (wrO_outAt m c f))) $$ p5
  iapply Hk
  unfold zeros zeroG
  isplitl [M0 D0 M1 D1 L0 L1 L2]
  · isplitl [M0 D0 M1 D1]
    · isplitl [M0]; · iexact M0
      isplitl [D0]; · iexact D0
      isplitl [M1]; · iexact M1
      iexact D1
    isplitl [L0]; · iexact L0
    isplitl [L1]; · iexact L1
    iexact L2
  isplitl [HB Z000 Z100 Z200 Z300 Z001 Z101 Z201 Z301 Z002 Z102 Z202 Z302 Z010 Z110 Z210 Z310 Z011 Z111 Z211 Z311 Z012 Z112 Z212 Z312]
  · isplitl [HB]; · iexact HB
    isplitl [Z000 Z100 Z200 Z300]
    · isplitl [Z000]; · iexact Z000
      isplitl [Z100]; · iexact Z100
      isplitl [Z200]; · iexact Z200
      iexact Z300
    isplitl [Z001 Z101 Z201 Z301]
    · isplitl [Z001]; · iexact Z001
      isplitl [Z101]; · iexact Z101
      isplitl [Z201]; · iexact Z201
      iexact Z301
    isplitl [Z002 Z102 Z202 Z302]
    · isplitl [Z002]; · iexact Z002
      isplitl [Z102]; · iexact Z102
      isplitl [Z202]; · iexact Z202
      iexact Z302
    isplitl [Z010 Z110 Z210 Z310]
    · isplitl [Z010]; · iexact Z010
      isplitl [Z110]; · iexact Z110
      isplitl [Z210]; · iexact Z210
      iexact Z310
    isplitl [Z011 Z111 Z211 Z311]
    · isplitl [Z011]; · iexact Z011
      isplitl [Z111]; · iexact Z111
      isplitl [Z211]; · iexact Z211
      iexact Z311
    isplitl [Z012]; · iexact Z012
    isplitl [Z112]; · iexact Z112
    isplitl [Z212]; · iexact Z212
    iexact Z312
  isplitl [Ho]; · iexact Ho
  isplitl [p0 p1 p2 p3 p4]
  · isplitl [p0]; · iexact p0
    isplitl [p1]; · iexact p1
    isplitl [p2]; · iexact p2
    isplitl [p3]; · iexact p3
    iexact p4
  iexact p5

end Cert.Exchange

end
-- ==== Proof.Launch.lean ====
/-
# The launch: dealing the ghost state, and the run of the whole program

Minted per device: the duty tokens of its own twenty-five cells. The tokens of its receive cells go to the devices that
write its slots, those of its barrier cell to its three peers; every other one stays.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The scratch buffers as slots -/

abbrev iM (c : Dev nD) (p : Fin 4 × Fin 2) : Finset (Idx ((c : Thread nD τ).loc cc0_scratch0)) := (mS p.1 p.2).view.set
abbrev iD (c : Dev nD) (p : Fin 4 × Fin 2) : Finset (Idx ((c : Thread nD τ).loc cc0_scratch1)) := (dS p.1 p.2).view.set

theorem iM_disj (c : Dev nD) (p p' : Fin 4 × Fin 2) (h : p ≠ p') : Disjoint (iM c p) (iM c p') := by
  show Disjoint (mW.view.slice (mRect p.1 p.2)).set (mW.view.slice (mRect p'.1 p'.2)).set
  rw [View.set_slice, View.set_slice, Finset.disjoint_map]
  by_cases h1 : p.1 = p'.1
  · have h2 : p.2.val ≠ p'.2.val := fun h2 => h (Prod.ext h1 (Fin.ext h2))
    exact Rect.unit_disjoint 1 (by show p.2.val + 1 ≤ p'.2.val ∨ p'.2.val + 1 ≤ p.2.val; omega)
  · have h2 : p.1.val ≠ p'.1.val := fun h2 => h1 (Fin.ext h2)
    exact Rect.unit_disjoint 0 (by show p.1.val + 1 ≤ p'.1.val ∨ p'.1.val + 1 ≤ p.1.val; omega)
theorem iD_disj (c : Dev nD) (p p' : Fin 4 × Fin 2) (h : p ≠ p') : Disjoint (iD c p) (iD c p') := by
  show Disjoint (dW.view.slice (dRect p.1 p.2)).set (dW.view.slice (dRect p'.1 p'.2)).set
  rw [View.set_slice, View.set_slice, Finset.disjoint_map]
  by_cases h1 : p.1 = p'.1
  · have h2 : p.2.val ≠ p'.2.val := fun h2 => h (Prod.ext h1 (Fin.ext h2))
    exact Rect.unit_disjoint 1 (by show p.2.val + 1 ≤ p'.2.val ∨ p'.2.val + 1 ≤ p.2.val; omega)
  · have h2 : p.1.val ≠ p'.1.val := fun h2 => h1 (Fin.ext h2)
    exact Rect.unit_disjoint 0 (by show p.1.val + 1 ≤ p'.1.val ∨ p'.1.val + 1 ≤ p.1.val; omega)

/-- What the slots leave of the two buffers. -/
def rests (c : Dev nD) : sProp 𝕄 :=
  iprop((∃ f : Buf (Elt F) ((c : Thread nD τ).loc cc0_scratch0), ((c : Thread nD τ).loc cc0_scratch0) ↦[Ring.restOf (iM c)]{fullShare} f)
    ∗ (∃ f : Buf (Elt F) ((c : Thread nD τ).loc cc0_scratch1), ((c : Thread nD τ).loc cc0_scratch1) ↦[Ring.restOf (iD c)]{fullShare} f))

def wholes (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

theorem bigSep_slots (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

theorem cutM (c : Dev nD) : (iprop(∃ f : Buf (Elt F) ((c : Thread nD τ).loc cc0_scratch0), ((c : Thread nD τ).loc cc0_scratch0) ↦{fullShare} f) : sProp 𝕄)
    ⊢ iprop((bigSep Finset.univ fun p : Fin 4 × Fin 2 => anyM c p.1 p.2)
      ∗ (∃ f : Buf (Elt F) ((c : Thread nD τ).loc cc0_scratch0), ((c : Thread nD τ).loc cc0_scratch0) ↦[Ring.restOf (iM c)]{fullShare} f)) :=
  Ring.fam_split_ex (iM c) (iM_disj c)
theorem cutD (c : Dev nD) : (iprop(∃ f : Buf (Elt F) ((c : Thread nD τ).loc cc0_scratch1), ((c : Thread nD τ).loc cc0_scratch1) ↦{fullShare} f) : sProp 𝕄)
    ⊢ iprop((bigSep Finset.univ fun p : Fin 4 × Fin 2 => anyD c p.1 p.2)
      ∗ (∃ f : Buf (Elt F) ((c : Thread nD τ).loc cc0_scratch1), ((c : Thread nD τ).loc cc0_scratch1) ↦[Ring.restOf (iD c)]{fullShare} f)) :=
  Ring.fam_split_ex (iD c) (iD_disj c)
theorem joinM (c : Dev nD) : iprop((bigSep Finset.univ fun p : Fin 4 × Fin 2 => anyM c p.1 p.2)
      ∗ (∃ f : Buf (Elt F) ((c : Thread nD τ).loc cc0_scratch0), ((c : Thread nD τ).loc cc0_scratch0) ↦[Ring.restOf (iM c)]{fullShare} f))
    ⊢ (iprop(∃ f : Buf (Elt F) ((c : Thread nD τ).loc cc0_scratch0), ((c : Thread nD τ).loc cc0_scratch0) ↦{fullShare} f) : sProp 𝕄) := by
  iintro ⟨H, %f, Hr⟩
  iapply (Ring.fam_join (iM c) (iM_disj c) f)
  isplitl [H]; · iexact H
  iexists f; iexact Hr
theorem joinD (c : Dev nD) : iprop((bigSep Finset.univ fun p : Fin 4 × Fin 2 => anyD c p.1 p.2)
      ∗ (∃ f : Buf (Elt F) ((c : Thread nD τ).loc cc0_scratch1), ((c : Thread nD τ).loc cc0_scratch1) ↦[Ring.restOf (iD c)]{fullShare} f))
    ⊢ (iprop(∃ f : Buf (Elt F) ((c : Thread nD τ).loc cc0_scratch1), ((c : Thread nD τ).loc cc0_scratch1) ↦{fullShare} f) : sProp 𝕄) := by
  iintro ⟨H, %f, Hr⟩
  iapply (Ring.fam_join (iD c) (iD_disj c) f)
  isplitl [H]; · iexact H
  iexists f; iexact Hr

theorem cut (c : Dev nD) : (wholes c : sProp 𝕄) ⊢ iprop(slots c ∗ rests c) := by
  unfold wholes rests slots land
  iintro ⟨HM, HD⟩
  ihave HM := (cutM c) $$ HM
  ihave HD := (cutD c) $$ HD
  rw [bigSep_slots, bigSep_slots]
  icases HM with ⟨⟨m00, m01, m10, m11, m20, m21, m30, m31⟩, HM⟩
  icases HD with ⟨⟨d00, d01, d10, d11, d20, d21, d30, d31⟩, HD⟩
  isplitl [m00 m01 m10 m11 m20 m21 m30 m31 d00 d01 d10 d11 d20 d21 d30 d31]
  · isplitl [m00 m01 d00 d01]
    · isplitl [m00]; · iexact m00
      isplitl [d00]; · iexact d00
      isplitl [m01]; · iexact m01
      iexact d01
    isplitl [m10 m11 d10 d11]
    · isplitl [m10]; · iexact m10
      isplitl [d10]; · iexact d10
      isplitl [m11]; · iexact m11
      iexact d11
    isplitl [m20 m21 d20 d21]
    · isplitl [m20]; · iexact m20
      isplitl [d20]; · iexact d20
      isplitl [m21]; · iexact m21
      iexact d21
    isplitl [m30]; · iexact m30
    isplitl [d30]; · iexact d30
    isplitl [m31]; · iexact m31
    iexact d31
  isplitl [HM] <;> iassumption

theorem uncut (c : Dev nD) : iprop(slots c ∗ rests c) ⊢ (wholes c : sProp 𝕄) := by
  unfold wholes rests slots land
  iintro ⟨⟨⟨m00, d00, m01, d01⟩, ⟨m10, d10, m11, d11⟩, ⟨m20, d20, m21, d21⟩, m30, d30, m31, d31⟩, HM, HD⟩
  isplitl [m00 m01 m10 m11 m20 m21 m30 m31 HM]
  · iapply (joinM c)
    rw [bigSep_slots]
    isplitl [m00 m01 m10 m11 m20 m21 m30 m31]
    · isplitl [m00]; · iexact m00
      isplitl [m01]; · iexact m01
      isplitl [m10]; · iexact m10
      isplitl [m11]; · iexact m11
      isplitl [m20]; · iexact m20
      isplitl [m21]; · iexact m21
      isplitl [m30]; · iexact m30
      iexact m31
    iexact HM
  · iapply (joinD c)
    rw [bigSep_slots]
    isplitl [d00 d01 d10 d11 d20 d21 d30 d31]
    · isplitl [d00]; · iexact d00
      isplitl [d01]; · iexact d01
      isplitl [d10]; · iexact d10
      isplitl [d11]; · iexact d11
      isplitl [d20]; · iexact d20
      isplitl [d21]; · iexact d21
      isplitl [d30]; · iexact d30
      iexact d31
    iexact HD

/-! ## The body's contract -/

def Φ₀ (c : Dev nD) : sProp 𝕄 := iprop((∃ K, start m K c) ∗ slots c ∗ rests c)
def Φ₁ (c : Dev nD) : sProp 𝕄 := iprop(slots c ∗ rests c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs0 m c
    | ⟨1, _⟩ => xs1 m c
    | ⟨2, _⟩ => xs2 m c
    | ⟨3, _⟩ => xs3 m c
    | ⟨4, _⟩ => xs4 m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_in (w : Fin cfg0.W) (hw : w.val < 5) (t : Fin cfg0.N) : (cfg0.win w).fetch t = true := by
  rw [show t = t0_0 from fin_N0 t]; revert w; decide

theorem owns_whole_eq (c : Dev nD) (b : Ref sig .tc) (X : b.ty.Contents (Elt F)) :
    (owns (c : Thread nD τ) (Memref.whole b) fullShare X : sProp 𝕄) = iprop(∃ f, ⌜f = X⌝ ∗ (((c : Thread nD τ).loc b) ↦{fullShare} f)) := by
  unfold owns; simp only [Memref.whole, View.set_whole]; rfl

abbrev stg (c : Dev nD) (b : Ref sig .tc) (X : b.ty.Contents (Elt F)) : sProp 𝕄 := iprop(∃ f, ⌜f = X⌝ ∗ (((c : Thread nD τ).loc b) ↦{fullShare} f))

theorem stg_pt (c : Dev nD) (b : Ref sig .tc) (X Y : b.ty.Contents (Elt F)) (h : X = Y) : (stg c b X : sProp 𝕄) ⊢ pt c b Y := by
  subst h; iintro ⟨%f, %hf, H⟩; subst hf; iexact H
theorem pt_stg (c : Dev nD) (b : Ref sig .tc) (X : b.ty.Contents (Elt F)) : (pt c b X : sProp 𝕄) ⊢ stg c b X := by
  iintro H; iexists X; isplitr; · (ipureintro; rfl)
  iexact H
theorem stg_any (c : Dev nD) (b : Ref sig .tc) (X : b.ty.Contents (Elt F)) : (stg c b X : sProp 𝕄) ⊢ iprop(∃ f : b.ty.Contents (Elt F), pt c b f) := by
  iintro ⟨%f, %hf, H⟩; iexists f; iexact H

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (xs0 m c) ∗ stg c cc0_stg1_0 (xs1 m c) ∗ stg c cc0_stg2_0 (xs2 m c) ∗ stg c cc0_stg3_0 (xs3 m c) ∗ stg c cc0_stg4_0 (xs4 m c)
    ∗ stg c cc0_stg5_0 (outAt m c))

theorem owes_in (c : Dev nD) : ((dats m ρ 0 c).owesAt () t0_0.castSucc : sProp 𝕄) ⊢ owesX c (O₀ c) := by
  unfold Dat.owesAt Pipeline.owesWithin owesX
  rw [show (dats m ρ 0 c).owed t0_0.castSucc = O₀ c from rfl]
  iintro ⟨%W, -, HO⟩; iexists W; iexact HO
theorem owes_out (c : Dev nD) : (owesX c 0 : sProp 𝕄) ⊢ (dats m ρ 0 c).owesAt () t0_0.succ := by
  unfold Dat.owesAt Pipeline.owesWithin owesX
  rw [show (dats m ρ 0 c).owed t0_0.succ = 0 from rfl]
  iintro ⟨%W, HO⟩; iexists W
  isplitr; · (ipureintro; exact fun _ _ => Or.inl trivial)
  iexact HO

theorem body_sound (c : Dev nD) : bodyPre m ρ c ⊢ WP c (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀
  iintro ⟨⟨⟨%K, Hst⟩, Hsl, Hre⟩, Ho, ⟨%d0, p0⟩, ⟨%d1, p1⟩, ⟨%d2, p2⟩, ⟨%d3, p3⟩, ⟨%d4, p4⟩, ⟨%d5, p5⟩⟩
  ihave Ho := (owes_in m ρ c) $$ Ho
  ihave p0 := (stg_pt c cc0_stg0_0 _ (xs0 m c) (by unfold Dat.before; rw [if_pos (fetch_in 0 (by decide) t0_0)]; rfl)) $$ p0
  ihave p1 := (stg_pt c cc0_stg1_0 _ (xs1 m c) (by unfold Dat.before; rw [if_pos (fetch_in 1 (by decide) t0_0)]; rfl)) $$ p1
  ihave p2 := (stg_pt c cc0_stg2_0 _ (xs2 m c) (by unfold Dat.before; rw [if_pos (fetch_in 2 (by decide) t0_0)]; rfl)) $$ p2
  ihave p3 := (stg_pt c cc0_stg3_0 _ (xs3 m c) (by unfold Dat.before; rw [if_pos (fetch_in 3 (by decide) t0_0)]; rfl)) $$ p3
  ihave p4 := (stg_pt c cc0_stg4_0 _ (xs4 m c) (by unfold Dat.before; rw [if_pos (fetch_in 4 (by decide) t0_0)]; rfl)) $$ p4
  ihave p5 := (stg_any c cc0_stg5_0 _) $$ p5
  icases p5 with ⟨%f5, p5⟩
  iapply (body_run m K c f5) $$ [Hst Hsl Ho p0 p1 p2 p3 p4 p5]
  · isplitl [Hst]; · iexact Hst
    isplitl [Hsl]; · iexact Hsl
    isplitl [Ho]; · iexact Ho
    unfold staged
    isplitl [p0 p1 p2 p3 p4]
    · isplitl [p0]; · iexact p0
      isplitl [p1]; · iexact p1
      isplitl [p2]; · iexact p2
      isplitl [p3] <;> iassumption
    iexact p5
  unfold bodyPost Φ₁ staged
  iintro ⟨Hsl, Hz, Ho, ⟨p0, p1, p2, p3, p4⟩, p5⟩
  isplitl [Hsl Hre Hz]
  · isplitl [Hsl]; · iexact Hsl
    isplitl [Hre] <;> iassumption
  isplitl [Ho]; · iapply (owes_out m ρ c); iexact Ho
  isplitl [p0]; · iapply (pt_stg c cc0_stg0_0 _); iexact p0
  isplitl [p1]; · iapply (pt_stg c cc0_stg1_0 _); iexact p1
  isplitl [p2]; · iapply (pt_stg c cc0_stg2_0 _); iexact p2
  isplitl [p3]; · iapply (pt_stg c cc0_stg3_0 _); iexact p3
  isplitl [p4]; · iapply (pt_stg c cc0_stg4_0 _); iexact p4
  iapply (pt_stg c cc0_stg5_0 _); iexact p5

set_option maxRecDepth 4000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  exact body_sound m ρ c

/-! ## The launch's ghost state -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by
  intro k k' h
  unfold csem at h
  by_cases h1 : k.val < 24 <;> by_cases h2 : k'.val < 24
  · rw [dif_pos h1, dif_pos h2] at h
    have := congrArg (fun s : SemLoc sig => match s with | .dma q => q.val | .reg _ => 0) h
    exact Fin.ext (Nat.add_left_cancel this)
  · rw [dif_pos h1, dif_neg h2] at h; cases h
  · rw [dif_neg h1, dif_pos h2] at h; cases h
  · exact Fin.ext (by have := k.isLt; have := k'.isLt; omega)

theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_inj (congrArg Prod.snd h)
  rw [h1, h2]

theorem cell_iff {c c' : Dev nD} {g g' : Fin 4} {b b' : Fin 2} {o o' : Fin 3} (h : cell c g b o = cell c' g' b' o') : c = c' ∧ g = g' ∧ b = b' ∧ o = o' := by
  have h1 : c = c' := congrArg (fun x : GSem nD τ sig => x.1.1) h
  have h2 : 6 + gx g b o = 6 + gx g' b' o' := congrArg (fun x : GSem nD τ sig => match x.2 with | .dma q => q.val | .reg _ => 0) h
  unfold gx at h2
  have := g.isLt; have := b.isLt; have := o.isLt; have := g'.isLt; have := b'.isLt; have := o'.isLt
  exact ⟨h1, Fin.ext (by omega), Fin.ext (by omega), Fin.ext (by omega)⟩

theorem cell_ne_bar {c c' : Dev nD} {g : Fin 4} {b : Fin 2} {o : Fin 3} : cell c g b o ≠ barCell c' := fun h => by
  have := congrArg (fun x : GSem nD τ sig => x.2) h; cases this

def exCells : Finset (GSem nD τ sig) := Finset.univ.map ⟨kcell, kcell_injective⟩

abbrev TI : Type := Fin 3 ⊕ ((Fin 2 × Fin 3) × Fin 4)
abbrev tokOf (x : Dev nD × TI) : GSem nD τ sig × ℕ × Fin 3 := match x.2 with
  | .inl d => (barCell x.1, 0, d)
  | .inr p => (cell x.1 p.2 p.1.1 p.1.2, 0, 0)

theorem tokOf_injective : Function.Injective tokOf := by
  rintro ⟨c, d | ⟨⟨b, o⟩, g⟩⟩ ⟨c', d' | ⟨⟨b', o'⟩, g'⟩⟩ h
  · have h1 : c = c' := congrArg (fun x : GSem nD τ sig × ℕ × Fin 3 => x.1.1.1) h
    have h2 : d = d' := congrArg (fun x : GSem nD τ sig × ℕ × Fin 3 => x.2.2) h
    rw [h1, h2]
  · exact absurd (congrArg Prod.fst h).symm cell_ne_bar
  · exact absurd (congrArg Prod.fst h) cell_ne_bar
  · obtain ⟨h1, h2, h3, h4⟩ := cell_iff (congrArg Prod.fst h); dsimp only at h1 h2 h3 h4; rw [h1, h2, h3, h4]

def exToks : Finset (GSem nD τ sig × ℕ × Fin 3) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Fin 3 => dutyTok ER (barCell c) 0 d)
    ∗ bigSep Finset.univ fun p : Fin 2 × Fin 3 =>
      iprop(dutyTok ER (cell c 0 p.1 p.2) 0 0 ∗ dutyTok ER (cell c 1 p.1 p.2) 0 0 ∗ dutyTok ER (cell c 2 p.1 p.2) 0 0 ∗ dutyTok ER (cell c 3 p.1 p.2) 0 0))

/-- The tokens of the duties device `c` pays. -/
def payToks (c : Dev nD) : sProp 𝕄 :=
  iprop((bigSep Finset.univ fun o : Fin 3 => dutyTok ER (barCell (pe c o)) 0 o.rev) ∗ bigSep Finset.univ fun p : Fin 2 × Fin 3 => stk c p.1 p.2)

def ats (c : Dev nD) : sProp 𝕄 := bigSep Finset.univ fun k : Fin 25 => atPos ER (kcell (c, k)) 0 ∅ 0

def G (c : Dev nD) : sProp 𝕄 :=
  iprop((bigSep Finset.univ fun k : Fin 25 => roundState ER (Rd m) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, records m K ∗ ats c ∗ payToks c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 25 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by
      unfold toks; rw [bigSep_univ_sum, bigSep_univ_prod]
      refine congrArg₂ BI.sep rfl ?_
      exact bigSep_congr fun p _ => by rw [bigSep_fin4]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Twenty-five conjuncts, the last first, the others by batch entry and offset. -/
theorem chain25 (Φ : Fin 25 → sProp 𝕄) : bigSep Finset.univ Φ ⊢ iprop(Φ 24 ∗ (Φ 0 ∗ Φ 6 ∗ Φ 12 ∗ Φ 18) ∗ (Φ 1 ∗ Φ 7 ∗ Φ 13 ∗ Φ 19) ∗ (Φ 2 ∗ Φ 8 ∗ Φ 14 ∗ Φ 20) ∗ (Φ 3 ∗ Φ 9 ∗ Φ 15 ∗ Φ 21) ∗ (Φ 4 ∗ Φ 10 ∗ Φ 16 ∗ Φ 22) ∗ (Φ 5 ∗ Φ 11 ∗ Φ 17 ∗ Φ 23)) := by
  rw [bigSep_univ_eq_bigSepL [0, 1, 2, 3, 4, 5, 6, 7, 8, 9, 10, 11, 12, 13, 14, 15, 16, 17, 18, 19, 20, 21, 22, 23, 24] (by decide) (by decide)]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) ⊢ _
  iintro ⟨h0, h1, h2, h3, h4, h5, h6, h7, h8, h9, h10, h11, h12, h13, h14, h15, h16, h17, h18, h19, h20, h21, h22, h23, h24⟩
  isplitl [h24]; · iexact h24
  isplitl [h0 h6 h12 h18]
  · isplitl [h0]; · iexact h0
    isplitl [h6]; · iexact h6
    isplitl [h12]; · iexact h12
    iexact h18
  isplitl [h1 h7 h13 h19]
  · isplitl [h1]; · iexact h1
    isplitl [h7]; · iexact h7
    isplitl [h13]; · iexact h13
    iexact h19
  isplitl [h2 h8 h14 h20]
  · isplitl [h2]; · iexact h2
    isplitl [h8]; · iexact h8
    isplitl [h14]; · iexact h14
    iexact h20
  isplitl [h3 h9 h15 h21]
  · isplitl [h3]; · iexact h3
    isplitl [h9]; · iexact h9
    isplitl [h15]; · iexact h15
    iexact h21
  isplitl [h4 h10 h16 h22]
  · isplitl [h4]; · iexact h4
    isplitl [h10]; · iexact h10
    isplitl [h16]; · iexact h16
    iexact h22
  isplitl [h5]; · iexact h5
  isplitl [h11]; · iexact h11
  isplitl [h17]; · iexact h17
  iexact h23

theorem chain24 (Φ : Fin 24 → sProp 𝕄) : iprop((Φ 0 ∗ Φ 6 ∗ Φ 12 ∗ Φ 18) ∗ (Φ 1 ∗ Φ 7 ∗ Φ 13 ∗ Φ 19) ∗ (Φ 2 ∗ Φ 8 ∗ Φ 14 ∗ Φ 20) ∗ (Φ 3 ∗ Φ 9 ∗ Φ 15 ∗ Φ 21) ∗ (Φ 4 ∗ Φ 10 ∗ Φ 16 ∗ Φ 22) ∗ (Φ 5 ∗ Φ 11 ∗ Φ 17 ∗ Φ 23)) ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := by
  iintro ⟨⟨h0, h6, h12, h18⟩, ⟨h1, h7, h13, h19⟩, ⟨h2, h8, h14, h20⟩, ⟨h3, h9, h15, h21⟩, ⟨h4, h10, h16, h22⟩, ⟨h5, h11, h17, h23⟩⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  isplitl [h11]; · iexact h11
  isplitl [h12]; · iexact h12
  isplitl [h13]; · iexact h13
  isplitl [h14]; · iexact h14
  isplitl [h15]; · iexact h15
  isplitl [h16]; · iexact h16
  isplitl [h17]; · iexact h17
  isplitl [h18]; · iexact h18
  isplitl [h19]; · iexact h19
  isplitl [h20]; · iexact h20
  isplitl [h21]; · iexact h21
  isplitl [h22]; · iexact h22
  iexact h23

theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0) := by
  rw [Pipeline.ownSems0_eq_of_list c osem [0, 1, 2, 3, 4, 5, 6, 7, 8, 9, 10, 11, 12, 13, 14, 15, 16, 17, 18, 19, 20, 21, 22, 23] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_univ_eq_bigSepL [0, 1, 2, 3, 4, 5, 6, 7, 8, 9, 10, 11, 12, 13, 14, 15, 16, 17, 18, 19, 20, 21, 22, 23, 24] (by decide) (by decide)]
  show _ ⊢ (iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal (barCell c) 0) : sProp 𝕄)
  iintro ⟨⟨h0, h1, h2, h3, h4, h5, h6, h7, h8, h9, h10, h11, h12, h13, h14, h15, h16, h17, h18, h19, h20, h21, h22, h23⟩, h24⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  isplitl [h11]; · iexact h11
  isplitl [h12]; · iexact h12
  isplitl [h13]; · iexact h13
  isplitl [h14]; · iexact h14
  isplitl [h15]; · iexact h15
  isplitl [h16]; · iexact h16
  isplitl [h17]; · iexact h17
  isplitl [h18]; · iexact h18
  isplitl [h19]; · iexact h19
  isplitl [h20]; · iexact h20
  isplitl [h21]; · iexact h21
  isplitl [h22]; · iexact h22
  isplitl [h23]; · iexact h23
  iexact h24

theorem zeros_out (c : Dev nD) : (zeros c : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold zeros zeroG
  exact sep_mono_right (chain24 (fun k => semVal ((c : Thread nD τ), osem k) 0))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem conj_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1),
    bigSep_univ_equiv (Equiv.prodComm A B) (fun x : B × A => Φ x.2 x.1)]
  rfl

/-- A barrier cell's three tokens go to the three peers. -/
theorem bar_around : (bigSep Finset.univ fun c : Dev nD => bigSep Finset.univ fun d : Fin 3 => (dutyTok ER (barCell c) 0 d : sProp 𝕄))
    = bigSep Finset.univ fun c : Dev nD => bigSep Finset.univ fun o : Fin 3 => dutyTok ER (barCell (pe c o)) 0 o.rev := by
  rw [conj_swap, conj_swap (Φ := fun (c : Dev nD) (o : Fin 3) => (dutyTok ER (barCell (pe c o)) 0 o.rev : sProp 𝕄)),
    bigSep_univ_equiv Fin.revPerm]
  exact bigSep_congr fun o _ => bigSep_univ_equiv (shE o) (fun c : Dev nD => (dutyTok ER (barCell c) 0 (Fin.revPerm o) : sProp 𝕄))

/-- A receive cell's token goes to the device that writes the slot. -/
theorem copy_around (b : Fin 2) (o : Fin 3) :
    (bigSep Finset.univ fun c : Dev nD => iprop(dutyTok ER (cell c 0 b o) 0 0 ∗ dutyTok ER (cell c 1 b o) 0 0 ∗ dutyTok ER (cell c 2 b o) 0 0 ∗ dutyTok ER (cell c 3 b o) 0 0) : sProp 𝕄)
      ⊢ bigSep Finset.univ fun c : Dev nD => stk c b o := by
  unfold stk
  rw [bigSep_sep', bigSep_sep', bigSep_sep', bigSep_sep', bigSep_sep', bigSep_sep',
    bigSep_univ_equiv (shE o) (fun c : Dev nD => (dutyTok ER (cell c 1 b o) 0 0 : sProp 𝕄)),
    bigSep_univ_equiv (shE o) (fun c : Dev nD => (dutyTok ER (cell c 3 b o) 0 0 : sProp 𝕄))]
  iintro ⟨H1, H2, H3, H4⟩
  isplitl [H1 H2]
  · isplitl [H1]; · iexact H1
    iexact H2
  isplitl [H3]; · iexact H3
  iexact H4

theorem toks_around : (bigSep Finset.univ fun c : Dev nD => (toks c : sProp 𝕄)) ⊢ bigSep Finset.univ fun c : Dev nD => payToks c := by
  unfold toks payToks
  rw [bigSep_sep', bigSep_sep']
  refine Idealize.SL.BI.sep_mono (Entails.of_eq bar_around) ?_
  rw [conj_swap, conj_swap (Φ := fun (c : Dev nD) (p : Fin 2 × Fin 3) => (stk c p.1 p.2 : sProp 𝕄))]
  exact bigSep_mono fun p _ => copy_around p.1 p.2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (Rd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (Rd m) κ (kcell ck) : sProp 𝕄))) $$ HI
  icases HK with ⟨%K, #HI⟩
  ihave Htk := (toks_around (F := F)) $$ Htok
  iapply (bigSep_with_persistent (R := records m K) (Φ := fun c => iprop(ats c ∗ payToks c)) (Ψ := G' m) fun c _ => by
    unfold G'; iintro H; iexists K; iexact H)
  isplitr
  · unfold records; isplitl; · iexact HI
    iexact HR
  · rw [bigSep_sep']
    isplitl [Hat]
    · unfold ats; iexact Hat
    · iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem bar_inj {a b : Dev nD} (h : barCell a = barCell b) : a = b := congrArg (fun g : GSem nD τ sig => g.1.1) h

theorem owed_bar_one (d c : Dev nD) (o : Fin 3) : (tallyAt (barCell (pe d o)) () 1 : CellTallies nD τ sig Unit) (barCell c) () = if d = pe c o.rev then 1 else 0 := by
  rw [tallyAt_apply]
  by_cases h : d = pe c o.rev
  · subst h; rw [pe_rev', if_pos ⟨rfl, rfl⟩, if_pos rfl]
  · rw [if_neg (fun ⟨h1, _⟩ => h (by rw [bar_inj h1, pe_rev])), if_neg h]

theorem owedL_zero {d : Dev nD} {ts : List (Fin 4 × Fin 2 × Fin 3)} {g : GSem nD τ sig} (h : ∀ t ∈ ts, g ≠ cell (pe d t.2.2) t.1 t.2.1 t.2.2) : owedL d ts g () = 0 := by
  by_contra hne
  obtain ⟨t, ht, e⟩ := owedL_pos (Nat.pos_of_ne_zero hne)
  exact h t ht e

theorem owed_bar (d c : Dev nD) : O₀ d (barCell c) ()
    = (if d = pe c (Fin.rev 2) then 1 else 0) + (if d = pe c (Fin.rev 1) then 1 else 0) + (if d = pe c (Fin.rev 0) then 1 else 0) := by
  unfold O₀ O₁ O₂ O₃
  simp only [Pi.add_apply, Finsupp.add_apply]
  rw [owed_bar_one, owed_bar_one, owed_bar_one, owedL_zero (fun t _ h => cell_ne_bar h.symm), Nat.zero_add]

theorem owedL_at (d c : Dev nD) (g : Fin 4) (b : Fin 2) (o : Fin 3) (ts : List (Fin 4 × Fin 2 × Fin 3)) (hn : ts.Nodup) (hm : (g, b, o) ∈ ts) :
    owedL d ts (cell c g b o) () = if d = pe c o.rev then Ng g else 0 := by
  induction ts with
  | nil => exact absurd hm List.not_mem_nil
  | cons t ts ih =>
    have hn' := List.nodup_cons.mp hn
    unfold owedL
    rw [Pi.add_apply, Finsupp.add_apply, tallyAt_apply]
    rcases List.mem_cons.mp hm with rfl | h
    · rw [owedL_zero (fun t' ht' h => hn'.1 (by
        obtain ⟨-, h1, h2, h3⟩ := cell_iff h
        have : ((g, b, o) : Fin 4 × Fin 2 × Fin 3) = t' := Prod.ext h1 (Prod.ext h2 h3)
        exact this ▸ ht')), Nat.zero_add]
      by_cases h : d = pe c o.rev
      · subst h; rw [pe_rev', if_pos ⟨rfl, rfl⟩, if_pos rfl]
      · rw [if_neg (fun h1 => h (by rw [(cell_iff h1.1).1, pe_rev])), if_neg h]
    · have hz : ¬ (cell c g b o = cell (pe d t.2.2) t.1 t.2.1 t.2.2 ∧ () = ()) := fun h1 => hn'.1 (by
        obtain ⟨-, h1, h2, h3⟩ := cell_iff h1.1
        have : ((g, b, o) : Fin 4 × Fin 2 × Fin 3) = t := Prod.ext h1 (Prod.ext h2 h3)
        exact this ▸ h)
      rw [ih hn'.2 h, if_neg hz, Nat.add_zero]

theorem owed_recv (d c : Dev nD) (g : Fin 4) (b : Fin 2) (o : Fin 3) (hm : (g, b, o) ∈ xfers) :
    O₀ d (cell c g b o) () = if d = pe c o.rev then Ng g else 0 := by
  unfold O₀ O₁ O₂ O₃
  simp only [Pi.add_apply, Finsupp.add_apply]
  rw [tallyAt_ne_cell cell_ne_bar, tallyAt_ne_cell cell_ne_bar, tallyAt_ne_cell cell_ne_bar, Finsupp.zero_apply, Nat.add_zero, Nat.add_zero, Nat.add_zero,
    owedL_at d c g b o xfers (by decide) hm]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (c : Dev nD) (g : Fin 4) (b : Fin 2) (o : Fin 3) (hm : (g, b, o) ∈ xfers) :
    tallyOn (cell c g b o) (launchCredit (Pipeline.owing O₀) 0 (cell c g b o)) = (tallyAt (cell c g b o) () (Ng g) : CellTallies nD τ sig Unit) := by
  unfold tallyAt; refine congrArg _ (Finsupp.ext fun u => ?_); cases u
  rw [Pipeline.launchCredit_owing, Finsupp.single_eq_same, Finset.sum_congr rfl fun d _ => owed_recv d c g b o hm, Finset.sum_ite_eq' Finset.univ _ fun _ => Ng g,
    if_pos (Finset.mem_univ _)]

/-- The cells that devices are in debt to. -/
abbrev owedLocs : List (SemLoc sig) := [SemLoc.reg barS, SemLoc.dma (gS 1 0 0), SemLoc.dma (gS 3 0 0), SemLoc.dma (gS 1 0 1), SemLoc.dma (gS 3 0 1), SemLoc.dma (gS 1 0 2), SemLoc.dma (gS 3 0 2), SemLoc.dma (gS 1 1 0), SemLoc.dma (gS 3 1 0), SemLoc.dma (gS 1 1 1), SemLoc.dma (gS 3 1 1), SemLoc.dma (gS 1 1 2), SemLoc.dma (gS 3 1 2)]

theorem creds (c : Dev nD) :
    (Pipeline.launchCred O₀ c : sProp 𝕄) ⊢ iprop(cred (tallyAt (barCell c) () 3) ∗ (cred (tallyAt (cell c 1 0 0) () (Ng 1)) ∗ cred (tallyAt (cell c 3 0 0) () (Ng 3))) ∗ (cred (tallyAt (cell c 1 0 1) () (Ng 1)) ∗ cred (tallyAt (cell c 3 0 1) () (Ng 3))) ∗ (cred (tallyAt (cell c 1 0 2) () (Ng 1)) ∗ cred (tallyAt (cell c 3 0 2) () (Ng 3))) ∗ (cred (tallyAt (cell c 1 1 0) () (Ng 1)) ∗ cred (tallyAt (cell c 3 1 0) () (Ng 3))) ∗ (cred (tallyAt (cell c 1 1 1) () (Ng 1)) ∗ cred (tallyAt (cell c 3 1 1) () (Ng 3))) ∗ (cred (tallyAt (cell c 1 1 2) () (Ng 1)) ∗ cred (tallyAt (cell c 3 1 2) () (Ng 3)))) := by
  unfold Pipeline.launchCred
  refine (BI.bigSep_subset (Finset.subset_univ owedLocs.toFinset)).trans ?_
  rw [bigSep_eq_bigSepL_of_eq owedLocs rfl (by decide)]
  simp only [bigSepL]
  rw [launch_bar, launch_recv c 1 0 0 (by decide), launch_recv c 3 0 0 (by decide), launch_recv c 1 0 1 (by decide), launch_recv c 3 0 1 (by decide), launch_recv c 1 0 2 (by decide), launch_recv c 3 0 2 (by decide), launch_recv c 1 1 0 (by decide), launch_recv c 3 1 0 (by decide), launch_recv c 1 1 1 (by decide), launch_recv c 3 1 1 (by decide), launch_recv c 1 1 2 (by decide), launch_recv c 3 1 2 (by decide)]
  show iprop(cred (tallyAt (barCell c) () 3) ∗ cred (tallyAt (cell c 1 0 0) () (Ng 1)) ∗ cred (tallyAt (cell c 3 0 0) () (Ng 3)) ∗ cred (tallyAt (cell c 1 0 1) () (Ng 1)) ∗ cred (tallyAt (cell c 3 0 1) () (Ng 3)) ∗ cred (tallyAt (cell c 1 0 2) () (Ng 1)) ∗ cred (tallyAt (cell c 3 0 2) () (Ng 3)) ∗ cred (tallyAt (cell c 1 1 0) () (Ng 1)) ∗ cred (tallyAt (cell c 3 1 0) () (Ng 3)) ∗ cred (tallyAt (cell c 1 1 1) () (Ng 1)) ∗ cred (tallyAt (cell c 3 1 1) () (Ng 3)) ∗ cred (tallyAt (cell c 1 1 2) () (Ng 1)) ∗ cred (tallyAt (cell c 3 1 2) () (Ng 3))) ⊢ (_ : sProp 𝕄)
  iintro ⟨H, h100, h300, h101, h301, h102, h302, h110, h310, h111, h311, h112, h312⟩
  isplitl [H]; · iexact H
  isplitl [h100 h300]
  · isplitl [h100] <;> iassumption
  isplitl [h101 h301]
  · isplitl [h101] <;> iassumption
  isplitl [h102 h302]
  · isplitl [h102] <;> iassumption
  isplitl [h110 h310]
  · isplitl [h110] <;> iassumption
  isplitl [h111 h311]
  · isplitl [h111] <;> iassumption
  isplitl [h112] <;> iassumption

theorem pay_list (c : Dev nD) : (payToks c : sProp 𝕄)
    ⊢ iprop((dutyTok ER (barCell (pe c 0)) 0 (Fin.rev 0) ∗ dutyTok ER (barCell (pe c 1)) 0 (Fin.rev 1) ∗ dutyTok ER (barCell (pe c 2)) 0 (Fin.rev 2))
      ∗ stk c 0 0 ∗ stk c 0 1 ∗ stk c 0 2 ∗ stk c 1 0 ∗ stk c 1 1 ∗ stk c 1 2) := by
  unfold payToks
  rw [bigSep_fin3, bigSep_univ_eq_bigSepL [(0, 0), (0, 1), (0, 2), (1, 0), (1, 1), (1, 2)] (by decide) (by decide)]
  exact Entails.refl _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((∃ K, start m K c) ∗ emp) := by
  unfold G'
  iintro ⟨-, HL, Hcr, -, %K, #HR, Hat, Hpay⟩
  ihave Hc := (creds (F := F) c) $$ Hcr
  unfold ats
  ihave Hat := (show _ ⊢ (iprop(atPos ER (barCell c) 0 ∅ 0 ∗ (atPos ER (cell c 0 0 0) 0 ∅ 0 ∗ atPos ER (cell c 1 0 0) 0 ∅ 0 ∗ atPos ER (cell c 2 0 0) 0 ∅ 0 ∗ atPos ER (cell c 3 0 0) 0 ∅ 0) ∗ (atPos ER (cell c 0 0 1) 0 ∅ 0 ∗ atPos ER (cell c 1 0 1) 0 ∅ 0 ∗ atPos ER (cell c 2 0 1) 0 ∅ 0 ∗ atPos ER (cell c 3 0 1) 0 ∅ 0) ∗ (atPos ER (cell c 0 0 2) 0 ∅ 0 ∗ atPos ER (cell c 1 0 2) 0 ∅ 0 ∗ atPos ER (cell c 2 0 2) 0 ∅ 0 ∗ atPos ER (cell c 3 0 2) 0 ∅ 0) ∗ (atPos ER (cell c 0 1 0) 0 ∅ 0 ∗ atPos ER (cell c 1 1 0) 0 ∅ 0 ∗ atPos ER (cell c 2 1 0) 0 ∅ 0 ∗ atPos ER (cell c 3 1 0) 0 ∅ 0) ∗ (atPos ER (cell c 0 1 1) 0 ∅ 0 ∗ atPos ER (cell c 1 1 1) 0 ∅ 0 ∗ atPos ER (cell c 2 1 1) 0 ∅ 0 ∗ atPos ER (cell c 3 1 1) 0 ∅ 0) ∗ (atPos ER (cell c 0 1 2) 0 ∅ 0 ∗ atPos ER (cell c 1 1 2) 0 ∅ 0 ∗ atPos ER (cell c 2 1 2) 0 ∅ 0 ∗ atPos ER (cell c 3 1 2) 0 ∅ 0)) : sProp 𝕄) from chain25 (fun k => atPos ER (kcell (c, k)) 0 ∅ 0)) $$ Hat
  ihave Hpay := (pay_list (F := F) c) $$ Hpay
  icases Hpay with ⟨Hb, Hs⟩
  imodintro
  isplitl; swap; · iempintro
  iexists K
  unfold start barG copyG
  icases Hat with ⟨HaB, ⟨a000, a100, a200, a300⟩, ⟨a001, a101, a201, a301⟩, ⟨a002, a102, a202, a302⟩, ⟨a010, a110, a210, a310⟩, ⟨a011, a111, a211, a311⟩, ⟨a012, a112, a212, a312⟩⟩
  icases Hc with ⟨HcB, ⟨c100, c300⟩, ⟨c101, c301⟩, ⟨c102, c302⟩, ⟨c110, c310⟩, ⟨c111, c311⟩, ⟨c112, c312⟩⟩
  icases Hs with ⟨s00, s01, s02, s10, s11, s12⟩
  icases Hb with ⟨t0, t1, t2⟩
  ihave k100 := (mk_tk c 1 0 0) $$ [c100 a100]
  · isplitl [c100] <;> iassumption
  ihave k300 := (mk_tk c 3 0 0) $$ [c300 a300]
  · isplitl [c300] <;> iassumption
  ihave k101 := (mk_tk c 1 0 1) $$ [c101 a101]
  · isplitl [c101] <;> iassumption
  ihave k301 := (mk_tk c 3 0 1) $$ [c301 a301]
  · isplitl [c301] <;> iassumption
  ihave k102 := (mk_tk c 1 0 2) $$ [c102 a102]
  · isplitl [c102] <;> iassumption
  ihave k302 := (mk_tk c 3 0 2) $$ [c302 a302]
  · isplitl [c302] <;> iassumption
  ihave k110 := (mk_tk c 1 1 0) $$ [c110 a110]
  · isplitl [c110] <;> iassumption
  ihave k310 := (mk_tk c 3 1 0) $$ [c310 a310]
  · isplitl [c310] <;> iassumption
  ihave k111 := (mk_tk c 1 1 1) $$ [c111 a111]
  · isplitl [c111] <;> iassumption
  ihave k311 := (mk_tk c 3 1 1) $$ [c311 a311]
  · isplitl [c311] <;> iassumption
  ihave k112 := (mk_tk c 1 1 2) $$ [c112 a112]
  · isplitl [c112] <;> iassumption
  ihave k312 := (mk_tk c 3 1 2) $$ [c312 a312]
  · isplitl [c312] <;> iassumption
  isplitr; · iexact HR
  isplitl [HL]; · iexact HL
  isplitl [HcB HaB t0 t1 t2]
  · isplitl [HcB HaB]
    · isplitl [HcB] <;> iassumption
    isplitl [t0]; · iexact t0
    isplitl [t1]; · iexact t1
    iexact t2
  isplitl [s00 a000 a200 k100 k300]
  · isplitl [s00]; · iexact s00
    isplitl [a000 a200]
    · isplitl [a000] <;> iassumption
    isplitl [k100] <;> iassumption
  isplitl [s01 a001 a201 k101 k301]
  · isplitl [s01]; · iexact s01
    isplitl [a001 a201]
    · isplitl [a001] <;> iassumption
    isplitl [k101] <;> iassumption
  isplitl [s02 a002 a202 k102 k302]
  · isplitl [s02]; · iexact s02
    isplitl [a002 a202]
    · isplitl [a002] <;> iassumption
    isplitl [k102] <;> iassumption
  isplitl [s10 a010 a210 k110 k310]
  · isplitl [s10]; · iexact s10
    isplitl [a010 a210]
    · isplitl [a010] <;> iassumption
    isplitl [k110] <;> iassumption
  isplitl [s11 a011 a211 k111 k311]
  · isplitl [s11]; · iexact s11
    isplitl [a011 a211]
    · isplitl [a011] <;> iassumption
    isplitl [k111] <;> iassumption
  isplitl [s12]; · iexact s12
  isplitl [a012 a212]
  · isplitl [a012] <;> iassumption
  isplitl [k112] <;> iassumption

theorem phi0_intro (c : Dev nD) :
    iprop((∃ K, start m K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iapply (cut c); unfold wholes; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hs, Hr, Hz⟩
  ihave Hz := (zeros_out c) $$ Hz
  icases Hz with ⟨Hu, Ho⟩
  isplitl [Hu]; · iexact Hu
  isplitl [Ho]; · iexact Ho
  ihave H := (uncut c) $$ [Hs Hr]
  · isplitl [Hs] <;> iassumption
  unfold wholes; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair execution of the four devices' program ends, each device's operands and
    result at the run's contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := fun c => iprop(∃ K, start m K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays are as they were. -/
theorem finalA_in (c : Dev nD) (w : Fin cfg0.W) (hw : w.val < 5) : finalA m ρ c w = (s₀ m ρ).mem ((cfg0.win w).arr.view.loc (c : Thread nD τ)) :=
  (dats (F := F) m ρ 0 c).arrAt_in w (by revert w; decide) _

end Cert.Exchange

end
-- ==== Proof.Frames.lean ====
/- The frames: each program terminates with its argument arrays unchanged and every semaphore counter at zero.
   The two kernels' frames are the exchange's run with the values dropped. -/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal

@[expose] public section

set_option maxRecDepth 16384

noncomputable section

namespace Cert.Frames

open Idealize.ShloMosaic Idealize.ShloMosaic.TcCoe Idealize.SL.Sem

/-- The kernel with its mask as a plain constant is the idealized one whose named constant is the bits it replaced. -/
local instance bitsNamed : Named Bits := ⟨fun _ _ {φ} b => Scalar.ofBits φ b⟩

section
open Cert.KernelIdeal Cert.KernelIdeal.Gen Cert.Exchange
variable {F : FTy → Type} [FloatOps F] [Named F]

/-- The argument arrays end as they began. -/
theorem kept (m : (ℓ : Loc nD τ sig) → Buf (Elt F) ℓ) (ρ : Dev nD → PrngReg) {r} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans (finalA_in m ρ c 0 (by decide)), (h c 1).trans (finalA_in m ρ c 1 (by decide)),
    (h c 2).trans (finalA_in m ρ c 2 (by decide)), (h c 3).trans (finalA_in m ρ c 3 (by decide)),
    (h c 4).trans (finalA_in m ρ c 4 (by decide))⟩

end

theorem frame_kernelIdeal : Cert.quiescent_KernelIdeal := fun m g _ =>
  (θ_run _ _ _).mono (fun _ h => ⟨fun c => kept m g h.1 c, h.2⟩) (Cert.Exchange.run_main m g)

theorem frame_kernelIdeal_pre : Cert.quiescent_KernelIdeal_pre_finite_KernelIdeal := fun m g _ =>
  frame_kernelIdeal m g trivial

/-- The run at the bits of the floats, its named constant the bits themselves. -/
theorem run_bits (m : (ℓ : Loc Cert.KernelIdeal.nD Cert.KernelIdeal.τ Cert.KernelIdeal.sig) → Buf (Elt Bits) ℓ)
    (g : Dev Cert.KernelIdeal.nD → PrngReg) :
    θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run _ _ _).mono (fun _ h => ⟨fun c => kept m g h.1 c, h.2⟩) (Cert.Exchange.run_main m g)

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl

/-- At the bits, the two kernels are one program. -/
theorem defs_eq : Cert.Kernel.defs (F := Bits) = Cert.KernelIdeal.defs (F := Bits) :=
  congrArg (Pipeline.defs _) defs₀_eq

theorem frame_kernel : Cert.quiescent_Kernel := fun m g _ => by
  have h := run_bits m g
  rw [← defs_eq] at h
  exact h

theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

theorem frame_reference_pre : Cert.quiescent_ReferenceIdeal_pre_finite_ReferenceIdeal := fun m g _ =>
  frame_reference m g trivial

end Cert.Frames

end
-- ==== Proof.Consts.lean ====
/- The values of the float literals the programs carry. -/
module

public import Idealize.ShloMosaic.PureOps.Ideal.Laws

@[expose] public section

noncomputable section

namespace Cert.Consts

open Idealize.ShloMosaic

theorem eighth : Ideal.ofBits .f32 0x3E000000#32 = ((1 / 8 : ℝ) : EReal) := by
  simp [Ideal.ofBits, Ideal.ieee, -EReal.coe_mul]; norm_num
theorem negInf : Ideal.ofBits .f32 0xFF800000#32 = ⊥ := by simp [Ideal.ofBits, Ideal.ieee]
theorem posInf : Ideal.ofBits .f32 0x7F800000#32 = ⊤ := by simp [Ideal.ofBits, Ideal.ieee]

end Cert.Consts

end
-- ==== Proof.KernelValue.lean ====
/- The kernel's result at an index. -/
module

public import proofs.«01_k».proof.Proof.Launch
public import proofs.«01_k».proof.Proof.Consts
public import Idealize.ShloMosaic.Lib.Pointwise
public import Idealize.ShloMosaic.Lib.Pointwise.IndexBridge

@[expose] public section

set_option maxRecDepth 16384

noncomputable section

namespace Cert.KernelValue

open Idealize.ShloMosaic Idealize.ShloMosaic.TcCoe Idealize.SL.Sem Cert.KernelIdeal Cert.KernelIdeal.Gen Cert.Exchange

abbrev B0 : Type := S2x128x512.Idx → EReal
abbrev B1 : Type := S512x256.Idx → EReal
abbrev B2 : Type := S2x128x4x64.Idx → EReal
abbrev B3 : Type := S2x128x4x64.Idx → EReal
abbrev B4 : Type := S256x512.Idx → EReal

/-! ## Loads of a batch entry -/

theorem ldX_at (b : Fin 2) (f : B0) (i : Fin 128) (n : Fin 512) : ldX (F := Ideal) b f (ix3 0 i n) = f (ix3 b i n) := by
  refine congrArg f (?_ : _ = (ix3 b i n : S2x128x512.Idx))
  funext a
  apply Fin.ext
  match a with
  | ⟨0, _⟩ => exact (Nat.add_zero _).trans rfl
  | ⟨1, _⟩ => show 0 + 1 * i.val = i.val; omega
  | ⟨2, _⟩ => show 0 + 1 * n.val = n.val; omega

theorem ldK_at (b : Fin 2) (f : B2) (j : Fin 128) (h : Fin 4) (d : Fin 64) : ldK (F := Ideal) b f (ix4 0 j h d) = f (ix4 b j h d) := by
  refine congrArg f (?_ : _ = (ix4 b j h d : S2x128x4x64.Idx))
  funext a
  apply Fin.ext
  match a with
  | ⟨0, _⟩ => exact (Nat.add_zero _).trans rfl
  | ⟨1, _⟩ => show 0 + 1 * j.val = j.val; omega
  | ⟨2, _⟩ => show 0 + 1 * h.val = h.val; omega
  | ⟨3, _⟩ => show 0 + 1 * d.val = d.val; omega

theorem ldV_at (b : Fin 2) (f : B3) (j : Fin 128) (h : Fin 4) (d : Fin 64) : ldV (F := Ideal) b f (ix4 0 j h d) = f (ix4 b j h d) := by
  refine congrArg f (?_ : _ = (ix4 b j h d : S2x128x4x64.Idx))
  funext a
  apply Fin.ext
  match a with
  | ⟨0, _⟩ => exact (Nat.add_zero _).trans rfl
  | ⟨1, _⟩ => show 0 + 1 * j.val = j.val; omega
  | ⟨2, _⟩ => show 0 + 1 * h.val = h.val; omega
  | ⟨3, _⟩ => show 0 + 1 * d.val = d.val; omega

/-! ## One device's part -/

/-- The mask's bit for query `i` and key `j` of device `c`'s block. -/
def bit (c : Dev nD) (i j : Fin 128) : BitVec 1 :=
  IntOp.ori
    (IntOp.ori
      (IntOp.cmpi .sle
        (IntOp.absi (IntOp.subi (BitVec.ofNat 32 i.val) (IntOp.addi (BitVec.ofNat 32 j.val) (Scalar.muli (Scalar.remsi (Scalar.divsi c.word 1#32) 4#32) 128#32)))) 128#32)
      (IntOp.cmpi .slt (IntOp.addi (BitVec.ofNat 32 j.val) (Scalar.muli (Scalar.remsi (Scalar.divsi c.word 1#32) 4#32) 128#32)) 32#32))
    (IntOp.cmpi .slt (BitVec.ofNat 32 i.val) 32#32)

abbrev hd (h : Fin 4) (d : Fin 64) : Fin 256 := ⟨h.val * 64 + d.val, by omega⟩

/-- The weight of key `j` of the block for query `i`. -/
def w (x : B0) (wq : B1) (k : B2) (c : Dev nD) (b : Fin 2) (h : Fin 4) (i j : Fin 128) : EReal :=
  Ideal.exp ((∑ d : Fin 64, (∑ n : Fin 512, wq (ix2 n (hd h d)) * x (ix3 b i n)) * ((1 / 8 : ℝ) : EReal) * k (ix4 b j h d)) + Scalar.select (bit c i j) 0 ⊥)

theorem bit_at (c : Dev nD) (i j : Fin 128) : k0_pay2 c (ix2 i j) = bit c i j := by
  pointwise [k0_pay2]
  rfl

theorem masked : Named.named (F := Ideal) κ "mask" (φ := .f32) (3463342888#32) = (⊥ : EReal) := IdealRules.named_const.ideal_named_scalar _ _ _ _ rfl

theorem add_at (v : IVec S128x128 1) (i j : Fin 128) : k0_pay3 (F := Ideal) v (ix2 i j) = Scalar.select (v (ix2 i j)) (0 : EReal) ⊥ := by
  pointwise [k0_pay3]
  rw [masked]

theorem w0_at (x : B0) (wq : B1) (k : B2) (c : Dev nD) (h : Fin 4) (i j : Fin 128) :
    k0_pay4 (F := Ideal) (k0_pay1 wq) (k0_pay2 c) (ldK 0 k) (ldX 0 x) (ix3 h i j) = w x wq k c 0 h i j := by
  pointwise [k0_pay4, k0_pay1]
  simp only [add_at, bit_at, ldX_at, ldK_at, Consts.eighth]
  rfl

theorem w1_at (x : B0) (wq : B1) (k : B2) (c : Dev nD) (h : Fin 4) (i j : Fin 128) :
    k0_pay10 (F := Ideal) (k0_pay1 wq) (k0_pay3 (k0_pay2 c)) (k0_pay9 (ldK 1 k)) (ldX 1 x) (ix3 h i j) = w x wq k c 1 h i j := by
  pointwise [k0_pay10, k0_pay1, k0_pay9]
  simp only [add_at, bit_at, ldX_at, ldK_at, Consts.eighth]
  rfl

/-- The block's weighted values, and its weights added up. -/
def num (x : B0) (wq : B1) (k : B2) (v : B3) (c : Dev nD) (b : Fin 2) (h : Fin 4) (d : Fin 64) (i : Fin 128) : EReal :=
  ∑ j, v (ix4 b j h d) * w x wq k c b h i j
def den (x : B0) (wq : B1) (k : B2) (c : Dev nD) (b : Fin 2) (h : Fin 4) (i : Fin 128) : EReal := ∑ j, w x wq k c b h i j

theorem num0_at (x : B0) (wq : B1) (k : B2) (v : B3) (c : Dev nD) (h : Fin 4) (d : Fin 64) (i : Fin 128) :
    k0_pay6 (F := Ideal) (k0_pay1 wq) (k0_pay2 c) (ldK 0 k) (ldV 0 v) (ldX 0 x) (ix3 h d i) = num x wq k v c 0 h d i := by
  pointwise [k0_pay6]
  simp only [w0_at, ldV_at]
  rfl
theorem num1_at (x : B0) (wq : B1) (k : B2) (v : B3) (c : Dev nD) (h : Fin 4) (d : Fin 64) (i : Fin 128) :
    k0_pay12 (F := Ideal) (k0_pay1 wq) (k0_pay3 (k0_pay2 c)) (k0_pay9 (ldK 1 k)) (ldV 1 v) (ldX 1 x) (ix3 h d i) = num x wq k v c 1 h d i := by
  pointwise [k0_pay12]
  simp only [w1_at, ldV_at]
  rfl
theorem den0_at (x : B0) (wq : B1) (k : B2) (c : Dev nD) (h : Fin 4) (i : Fin 128) :
    k0_pay5 (F := Ideal) (k0_pay1 wq) (k0_pay2 c) (ldK 0 k) (ldX 0 x) (ix2 h i) = den x wq k c 0 h i := by
  pointwise [k0_pay5]
  simp only [w0_at]
  rfl
theorem den1_at (x : B0) (wq : B1) (k : B2) (c : Dev nD) (h : Fin 4) (i : Fin 128) :
    k0_pay11 (F := Ideal) (k0_pay1 wq) (k0_pay3 (k0_pay2 c)) (k0_pay9 (ldK 1 k)) (ldX 1 x) (ix2 h i) = den x wq k c 1 h i := by
  pointwise [k0_pay11]
  simp only [w1_at]
  rfl

/-! ## What a device receives -/

variable (m : (ℓ : Loc nD τ sig) → Buf (Elt Ideal) ℓ)

/-- Device `c`'s part, of its own operands. -/
abbrev numD (c : Dev nD) := num (xs0 m c) (xs1 m c) (xs2 m c) (xs3 m c) c
abbrev denD (c : Dev nD) := den (xs0 m c) (xs1 m c) (xs2 m c) c

theorem msg_at (c : Dev nD) (b : Fin 2) (h : Fin 4) (d : Fin 64) (i : Fin 128) : msgC m c b (ix5 0 0 h d i) = numD m c b h d i := by
  have e0 : k0_pay7 (F := Ideal) (k0_pay1 (xs1 m c)) (k0_pay2 c) (ldK 0 (xs2 m c)) (ldV 0 (xs3 m c)) (ldX 0 (xs0 m c)) (ix5 0 0 h d i) = numD m c 0 h d i := by
    pointwise [k0_pay7]
    exact num0_at ..
  have e1 : k0_pay13 (F := Ideal) (k0_pay1 (xs1 m c)) (k0_pay3 (k0_pay2 c)) (k0_pay9 (ldK 1 (xs2 m c))) (ldV 1 (xs3 m c)) (ldX 1 (xs0 m c)) (ix5 0 0 h d i) = numD m c 1 h d i := by
    pointwise [k0_pay13]
    exact num1_at ..
  match b with
  | 0 => exact e0
  | 1 => exact e1

theorem den_at (c : Dev nD) (b : Fin 2) (h : Fin 4) (i : Fin 128) : denC m c b (ix4 0 0 h i) = denD m c b h i := by
  have e0 : k0_pay8 (F := Ideal) (k0_pay1 (xs1 m c)) (k0_pay2 c) (ldK 0 (xs2 m c)) (ldX 0 (xs0 m c)) (ix4 0 0 h i) = denD m c 0 h i := by
    pointwise [k0_pay8]
    exact den0_at ..
  have e1 : k0_pay14 (F := Ideal) (k0_pay1 (xs1 m c)) (k0_pay3 (k0_pay2 c)) (k0_pay9 (ldK 1 (xs2 m c))) (ldX 1 (xs0 m c)) (ix4 0 0 h i) = denD m c 1 h i := by
    pointwise [k0_pay14]
    exact den1_at ..
  match b with
  | 0 => exact e0
  | 1 => exact e1

/-! ## The four parts put together -/

/-- Device `c`'s own part and the three received, in the order they are added. -/
def all (c : Dev nD) (f : Dev nD → EReal) : EReal := f c + f (pe c 2) + f (pe c 1) + f (pe c 0)

/-- The normalised context. -/
def ctx (c : Dev nD) (b : Fin 2) (h : Fin 4) (d : Fin 64) (i : Fin 128) : EReal :=
  Ideal.div (all c fun e => numD m e b h d i) (all c fun e => denD m e b h i)

theorem ctx0_at (c : Dev nD) (h : Fin 4) (d : Fin 64) (i : Fin 128) :
    k0_pay20 (F := Ideal) (sumM0 m c) (sumD0 m c) (inM m c 0 2) (inD m c 0 2) (ix3 h d i) = ctx m c 0 h d i := by
  pointwise [k0_pay20, k0_pay16, k0_pay17, k0_pay18, k0_pay19]
  simp only [msg_at, den_at, num0_at, den0_at]
  rfl
theorem ctx1_at (c : Dev nD) (h : Fin 4) (d : Fin 64) (i : Fin 128) :
    k0_pay28 (F := Ideal) (sumM1 m c) (sumD1 m c) (inM m c 1 2) (inD m c 1 2) (ix3 h d i) = ctx m c 1 h d i := by
  pointwise [k0_pay28, k0_pay24, k0_pay25, k0_pay26, k0_pay27]
  simp only [msg_at, den_at, num1_at, den1_at]
  rfl

/-- Head `h`'s share of the projection. -/
def part (c : Dev nD) (b : Fin 2) (i : Fin 128) (l : Fin 512) (h : Fin 4) : EReal := ∑ d : Fin 64, ctx m c b h d i * (xs4 m c : B4) (ix2 (hd h d) l)

theorem res0_at (c : Dev nD) (i : Fin 128) (l : Fin 512) :
    res0 m c (ix3 0 i l) = part m c 0 i l 0 + part m c 0 i l 1 + part m c 0 i l 2 + part m c 0 i l 3 := by
  unfold res0
  pointwise [k0_pay23, k0_pay15, k0_pay21, k0_pay22]
  simp only [ctx0_at, part, hd]
  simp
theorem res1_at (c : Dev nD) (i : Fin 128) (l : Fin 512) :
    res1 m c (ix3 0 i l) = part m c 1 i l 0 + part m c 1 i l 1 + part m c 1 i l 2 + part m c 1 i l 3 := by
  unfold res1
  pointwise [k0_pay29, k0_pay30, k0_pay31, k0_pay15]
  simp only [ctx1_at, part, hd]
  simp

theorem out_at (c : Dev nD) (b : Fin 2) (i : Fin 128) (l : Fin 512) : outAt m c (ix3 b i l) = ∑ h, part m c b i l h := by
  rw [Fin.sum_univ_four]
  match b with
  | 0 => exact (if_pos rfl).trans ((congrArg (res0 m c) (ix3_eq_valueIdx (0 : Fin 1) i l).symm).trans (res0_at m c i l))
  | 1 => exact (if_neg one_ne_zero).trans ((congrArg (res1 m c) (ix3_eq_valueIdx (0 : Fin 1) i l).symm).trans (res1_at m c i l))

end Cert.KernelValue

end
-- ==== Proof.RefValue.lean ====
/- The reference's result at an index. -/
module

public import proofs.«01_k».proof.Proof.Gen.ReferenceIdeal.Read
public import proofs.«01_k».proof.Proof.Consts
public import Idealize.ShloMosaic.Lib.Pointwise

@[expose] public section

set_option maxRecDepth 16384

noncomputable section

namespace Cert.RefValue

open Idealize.ShloMosaic Idealize.SL.Sem Cert.ReferenceIdeal Cert.ReferenceIdeal.Read

abbrev A0 : Type := (⟨S2x128x512, .bf16⟩ : BufTy).Contents (Elt Ideal)
abbrev A1 : Type := (⟨S512x256, .bf16⟩ : BufTy).Contents (Elt Ideal)
abbrev A2 : Type := (⟨S2x512x4x64, .bf16⟩ : BufTy).Contents (Elt Ideal)
abbrev A4 : Type := (⟨S256x512, .bf16⟩ : BufTy).Contents (Elt Ideal)

/-- Column `64 h + d` of the 256 query features. -/
abbrev hd (h : Fin 4) (d : Fin 64) : Fin 256 := ⟨h.val * 64 + d.val, by omega⟩

/-- The mask's bit for query `i` and key `j`. -/
def keepBit (i : Fin 128) (j : Fin 512) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))

/-- The masked score. -/
def t (x0 : A0) (x1 : A1) (x2 : A2) (b : Fin 2) (h : Fin 4) (i : Fin 128) (j : Fin 512) : EReal :=
  Scalar.select (keepBit i j) ((∑ d : Fin 64, (∑ n : Fin 512, x0 (ix3 b i n) * x1 (ix2 n (hd h d))) * x2 (ix4 b j h d)) * ((1 / 8 : ℝ) : EReal)) ⊥

theorem mask_at (i : Fin 128) (j : Fin 512) : val_main_v20 (F := Ideal) (ix2 i j) = keepBit i j := by
  pointwise [val_main_v20, val_main_v3, val_main_v4, val_main_v5, val_main_v6, val_main_v7, val_main_v8, val_main_v9, val_main_v10, val_main_v11, val_main_v12,
    val_main_v13, val_main_v14, val_main_v15, val_main_v16, val_main_v17, val_main_v18, val_main_v19, val_main_c, val_main_c_0, val_main_c_1]
  rfl

theorem score_at (x0 : A0) (x1 : A1) (x2 : A2) (b : Fin 2) (h : Fin 4) (i : Fin 128) (j : Fin 512) :
    val_main_v27 (F := Ideal) x0 x1 x2 (ix4 b h i j) = t x0 x1 x2 b h i j := by
  pointwise [val_main_v27, val_main_v26, val_main_v25, val_main_v24, val_main_v23, val_main_v22, val_main_v21, val_main_v2, val_main_v1, val_main_v0, val_main_cst,
    val_main_cst_2, val_main_call0_v0, val_main_call0_v1, val_main_call0_v2]
  rw [mask_at, Consts.eighth]
  exact congrArg _ Consts.negInf

/-- Any one bit set sets the disjunction. -/
theorem fold_ori {ι : Type} (s : Finset ι) (f : ι → BitVec 1) (j : ι) (hj : j ∈ s) (h1 : f j = 1#1) : s.fold IntOp.ori (0#1) f = 1#1 := by
  classical
  have e1 : ∀ v : BitVec 1, IntOp.ori (1#1) v = 1#1 := by decide
  have e2 : ∀ v : BitVec 1, IntOp.ori v (1#1) = 1#1 := by decide
  induction s using Finset.induction_on with
  | empty => exact absurd hj (Finset.notMem_empty j)
  | insert a s ha ih =>
    rw [Finset.fold_insert ha]
    rcases Finset.mem_insert.mp hj with rfl | h
    · rw [h1, e1]
    · rw [ih h, e2]

/-- The first key is one every query keeps. -/
theorem keep_zero (i : Fin 128) : keepBit i 0 = 1#1 := by
  have e : ∀ v w : BitVec 1, IntOp.ori v (IntOp.ori (1#1) w) = 1#1 := by decide
  exact e _ _

theorem row_at (i : Fin 128) : val_main_v33 (F := Ideal) (ix1 i) = 1#1 := by
  pointwise [val_main_v33, val_main_c_4]
  exact fold_ori _ _ (0 : Fin 512) (Finset.mem_univ _) ((mask_at i 0).trans (keep_zero i))

theorem weight_at (x0 : A0) (x1 : A1) (x2 : A2) (b : Fin 2) (h : Fin 4) (i : Fin 128) (j : Fin 512) :
    val_main_v32 (F := Ideal) x0 x1 x2 (ix4 b h i j)
      = Ideal.exp (t x0 x1 x2 b h i j - Finset.univ.fold max ⊥ (t x0 x1 x2 b h i)) := by
  pointwise [val_main_v32, val_main_v31, val_main_v30, val_main_v29, val_main_v28, val_main_cst_3]
  simp only [score_at, Consts.negInf]

theorem norm_at (x0 : A0) (x1 : A1) (x2 : A2) (b : Fin 2) (h : Fin 4) (i : Fin 128) :
    val_main_v37 (F := Ideal) x0 x1 x2 (ix4 b h i 0) = ∑ k, val_main_v32 (F := Ideal) x0 x1 x2 (ix4 b h i k) := by
  pointwise [val_main_v37, val_main_v36, val_main_v35, val_main_v34, val_main_cst_5, val_main_cst_6, val_main_call1_v0, val_main_call1_v1, val_main_call1_v2]
  rw [row_at, ValueIdx.select_one]

theorem quot_at (x0 : A0) (x1 : A1) (x2 : A2) (b : Fin 2) (h : Fin 4) (i : Fin 128) (j : Fin 512) :
    val_main_v39 (F := Ideal) x0 x1 x2 (ix4 b h i j)
      = Ideal.div (val_main_v32 (F := Ideal) x0 x1 x2 (ix4 b h i j)) (val_main_v37 (F := Ideal) x0 x1 x2 (ix4 b h i 0)) := by
  pointwise [val_main_v39, val_main_v38]

theorem context_at (x0 : A0) (x1 : A1) (x2 x3 : A2) (b : Fin 2) (h : Fin 4) (d : Fin 64) (i : Fin 128) :
    val_main_v43 (F := Ideal) x0 x1 x2 x3 (ix4 b h d i)
      = ∑ j, x3 (ix4 b j h d) * Ideal.div (Ideal.exp (t x0 x1 x2 b h i j - Finset.univ.fold max ⊥ (t x0 x1 x2 b h i)))
          (∑ k, Ideal.exp (t x0 x1 x2 b h i k - Finset.univ.fold max ⊥ (t x0 x1 x2 b h i))) := by
  pointwise [val_main_v43, val_main_v42, val_main_v41, val_main_v40, val_main_cst_7, val_main_call2_v0, val_main_call2_v1, val_main_call2_v2]
  simp only [row_at, ValueIdx.select_one, quot_at, norm_at, weight_at]

theorem result_at (x0 : A0) (x1 : A1) (x2 x3 : A2) (x4 : A4) (b : Fin 2) (i : Fin 128) (l : Fin 512) :
    val_main_v47 (F := Ideal) x0 x1 x2 x3 x4 (ix3 b i l)
      = ∑ k : Fin 256, val_main_v43 (F := Ideal) x0 x1 x2 x3 (ix4 b ⟨k.val / 64, by omega⟩ ⟨k.val % 64, by omega⟩ i) * x4 (ix2 k l) := by
  pointwise [val_main_v47, val_main_v46, val_main_v45, val_main_v44]

end Cert.RefValue

end
-- ==== Proof.Softmax.lean ====
/- Over the extended reals: weights of a softmax taken off the row's maximum and divided first, against weights as
   they are, summed and divided at the end. -/
module

public import Idealize.ShloMosaic.PureOps.Ideal.Laws

@[expose] public section

noncomputable section

namespace Cert.Softmax

open Idealize.ShloMosaic

theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A nonnegative real factor comes out of a sum of any extended reals. -/
theorem sum_mul_coe {ι : Type} (s : Finset ι) (f : ι → EReal) {z : ℝ} (hz : 0 ≤ z) : ∑ j ∈ s, f j * (z : EReal) = (∑ j ∈ s, f j) * (z : EReal) := by
  classical
  induction s using Finset.induction_on with
  | empty => simp
  | insert a s ha ih =>
    rw [Finset.sum_insert ha, Finset.sum_insert ha, ih]
    exact (EReal.right_distrib_of_nonneg_of_ne_top (EReal.coe_nonneg.mpr hz) (EReal.coe_ne_top z) _ _).symm

variable {ι : Type} [Fintype ι]

/-- The greatest of finitely many values none of which is the top and one of which is real is real. -/
theorem fold_max_real (t : ι → EReal) (htop : ∀ j, t j ≠ ⊤) (j₀ : ι) (h₀ : t j₀ ≠ ⊥) : ∃ μ : ℝ, Finset.univ.fold max ⊥ t = (μ : EReal) := by
  have h1 : Finset.univ.fold max ⊥ t < ⊤ := (Finset.fold_max_lt _).mpr ⟨bot_lt_top, fun x _ => lt_top_iff_ne_top.mpr (htop x)⟩
  have h2 : ⊥ < Finset.univ.fold max ⊥ t := (Finset.lt_fold_max _).mpr (.inr ⟨j₀, Finset.mem_univ _, bot_lt_iff_ne_bot.mpr h₀⟩)
  exact ⟨_, (EReal.coe_toReal h1.ne h2.ne').symm⟩

/-- The weighted mean, with each weight shifted by the maximum and divided, is the plain weighted sum over the plain sum of weights. -/
theorem mean_eq (keep : ι → Prop) [DecidablePred keep] (s : ι → ℝ) (t : ι → EReal) (ht : ∀ j, t j = if keep j then (s j : EReal) else ⊥)
    (j₀ : ι) (h₀ : keep j₀) (V : ι → EReal) :
    ∑ j, V j * Ideal.div (Ideal.exp (t j - Finset.univ.fold max ⊥ t)) (∑ k, Ideal.exp (t k - Finset.univ.fold max ⊥ t))
      = Ideal.div (∑ j, V j * Ideal.exp (t j)) (∑ k, Ideal.exp (t k)) := by
  have htop : ∀ j, t j ≠ ⊤ := fun j => by rw [ht]; split <;> simp
  obtain ⟨μ, hμ⟩ := fold_max_real t htop j₀ (by rw [ht, if_pos h₀]; simp)
  rw [hμ]
  let p : ι → ℝ := fun j => if keep j then Real.exp (s j) else 0
  have hp : ∀ j, Ideal.exp (t j) = (p j : EReal) := fun j => by
    rw [ht]; show _ = ((if keep j then Real.exp (s j) else 0 : ℝ) : EReal)
    split
    · simp
    · simp
  have hq : ∀ j, Ideal.exp (t j - (μ : EReal)) = ((p j * Real.exp (-μ) : ℝ) : EReal) := fun j => by
    rw [ht]; show _ = (((if keep j then Real.exp (s j) else 0) * Real.exp (-μ) : ℝ) : EReal)
    split
    · rw [← EReal.coe_sub, Ideal.exp_coe, sub_eq_add_neg, Real.exp_add]
    · rw [EReal.bot_sub, Ideal.exp_bot, zero_mul, EReal.coe_zero]
  have hp0 : ∀ j, 0 ≤ p j := fun j => by
    show 0 ≤ (if keep j then Real.exp (s j) else 0 : ℝ)
    split
    · exact (Real.exp_pos _).le
    · exact le_rfl
  have hZ : 0 < ∑ j, p j := Finset.sum_pos' (fun j _ => hp0 j) ⟨j₀, Finset.mem_univ _, by show 0 < (if keep j₀ then Real.exp (s j₀) else 0 : ℝ); rw [if_pos h₀]; exact Real.exp_pos _⟩
  have hg : 0 < Real.exp (-μ) := Real.exp_pos _
  simp only [hp, hq]
  rw [coe_sum, coe_sum, ← Finset.sum_mul, Ideal.div_coe hZ.ne', ← sum_mul_coe _ _ (by positivity)]
  refine Finset.sum_congr rfl fun j _ => ?_
  rw [Ideal.div_coe (mul_pos hZ hg).ne', ← EReal.coe_mul, mul_assoc (V j), ← EReal.coe_mul]
  congr 2
  field_simp

end Cert.Softmax

end
-- ==== Proof.Agree.lean ====
/- The kernel's result is the reference's: four blocks of keys, each weighed as it is and added up, against the whole
   row of keys weighed off its maximum. -/
module

public import proofs.«01_k».proof.Proof.KernelValue
public import proofs.«01_k».proof.Proof.RefValue
public import proofs.«01_k».proof.Proof.Softmax

@[expose] public section

set_option maxRecDepth 16384

noncomputable section

namespace Cert.Agree

open Idealize.ShloMosaic Idealize.ShloMosaic.TcCoe Idealize.SL.Sem Cert.KernelIdeal Cert.Exchange Cert.KernelValue
open Cert.RefValue (A0 A1 A2 A4 t keepBit)

/-- Key `j` of device `c`'s block among all the keys. -/
abbrev gk (c : Dev nD) (j : Fin 128) : Fin 512 := ⟨c.val * 128 + j.val, by have : c.val < 4 := c.isLt; omega⟩

theorem base_eq (c : Dev nD) : Scalar.muli (Scalar.remsi (Scalar.divsi c.word 1#32) 4#32) 128#32 = BitVec.ofNat 32 (c.val * 128) := by
  revert c; decide

theorem bit_eq (c : Dev nD) (i j : Fin 128) : bit c i j = keepBit i (gk c j) := by
  have assoc : ∀ u v w : BitVec 1, IntOp.ori (IntOp.ori u v) w = IntOp.ori u (IntOp.ori v w) := by decide
  have hk : IntOp.addi (BitVec.ofNat 32 j.val) (Scalar.muli (Scalar.remsi (Scalar.divsi c.word 1#32) 4#32) 128#32) = BitVec.ofNat 32 (gk c j).val := by
    rw [base_eq]
    show BitVec.ofNat 32 j.val + BitVec.ofNat 32 (c.val * 128) = _
    rw [← BitVec.ofNat_add, Nat.add_comm]
  unfold bit keepBit
  rw [hk, assoc]

theorem all_eq (c : Dev nD) (f : Dev nD → EReal) : all c f = ∑ e : Fin 4, f e := by
  rw [Fin.sum_univ_four]
  unfold all
  match c with
  | 0 => show f 0 + f 3 + f 2 + f 1 = _; ac_rfl
  | 1 => show f 1 + f 0 + f 3 + f 2 = _; ac_rfl
  | 2 => show f 2 + f 1 + f 0 + f 3 = _; ac_rfl
  | 3 => show f 3 + f 2 + f 1 + f 0 = _; ac_rfl

/-- A sum over all keys is the sum over the blocks of the sums over a block. -/
theorem sum_keys (f : Fin 512 → EReal) : ∑ e : Fin 4, ∑ j : Fin 128, f (gk e j) = ∑ j, f j := by
  rw [← Fintype.sum_prod_type' (fun e j => f (gk e j))]
  refine Fintype.sum_equiv (finProdFinEquiv (m := 4) (n := 128)) _ _ fun p => congrArg f (Fin.ext ?_)
  show p.1.val * 128 + p.2.val = p.2.val + 128 * p.1.val
  omega

/-- A sum over the features is the sum over the heads of the sums over a head. -/
theorem sum_features (f : Fin 256 → EReal) : ∑ h : Fin 4, ∑ d : Fin 64, f (hd h d) = ∑ k, f k := by
  rw [← Fintype.sum_prod_type' (fun h d => f (hd h d))]
  refine Fintype.sum_equiv (finProdFinEquiv (m := 4) (n := 64)) _ _ fun p => congrArg f (Fin.ext ?_)
  show p.1.val * 64 + p.2.val = p.2.val + 64 * p.1.val
  omega

variable (m : (ℓ : Loc nD τ sig) → Buf (Elt Ideal) ℓ)

/-- Every device holds the whole arrays `X`, `WQ`, `WO` and its own block of `K` and `V`. -/
structure Holds (X : A0) (WQ : A1) (K V : A2) (WO : A4) : Prop where
  x : ∀ c, xs0 m c = X
  wq : ∀ c, xs1 m c = WQ
  k : ∀ c b j h d, xs2 m c (ix4 b j h d : S2x128x4x64.Idx) = K (ix4 b (gk c j) h d)
  v : ∀ c b j h d, xs3 m c (ix4 b j h d : S2x128x4x64.Idx) = V (ix4 b (gk c j) h d)
  wo : ∀ c, xs4 m c = WO

/-- The inputs of the scores are real numbers. -/
structure Real (X : A0) (WQ : A1) (K : A2) : Prop where
  x : ∃ f : S2x128x512.Idx → ℝ, ∀ i, X i = (f i : EReal)
  wq : ∃ f : S512x256.Idx → ℝ, ∀ i, WQ i = (f i : EReal)
  k : ∃ f : Cert.ReferenceIdeal.S2x512x4x64.Idx → ℝ, ∀ i, K i = (f i : EReal)

variable {m} {X : A0} {WQ : A1} {K V : A2} {WO : A4}

/-- Every score is a real number, and scaling the query first is scaling the score. -/
theorem score_real (hr : Real X WQ K) (b : Fin 2) (h : Fin 4) (i : Fin 128) (j : Fin 512) :
    ∃ s : ℝ, (∑ d : Fin 64, (∑ n : Fin 512, X (ix3 b i n) * WQ (ix2 n (hd h d))) * K (ix4 b j h d)) * ((1 / 8 : ℝ) : EReal) = (s : EReal)
      ∧ (∑ d : Fin 64, (∑ n : Fin 512, WQ (ix2 n (hd h d)) * X (ix3 b i n)) * ((1 / 8 : ℝ) : EReal) * K (ix4 b j h d) : EReal) = (s : EReal) := by
  obtain ⟨x, hx⟩ := hr.x
  obtain ⟨w, hw⟩ := hr.wq
  obtain ⟨k, hk⟩ := hr.k
  simp only [hx, hw, hk, ← EReal.coe_mul, Softmax.coe_sum]
  refine ⟨_, rfl, congrArg _ ?_⟩
  rw [Finset.sum_mul]
  refine Finset.sum_congr rfl fun d _ => ?_
  rw [Finset.sum_congr rfl fun n _ => mul_comm (w (ix2 n (hd h d))) (x (ix3 b i n))]
  ring

theorem w_eq (hh : Holds m X WQ K V WO) (hr : Real X WQ K) (c : Dev nD) (b : Fin 2) (h : Fin 4) (i j : Fin 128) :
    w (xs0 m c) (xs1 m c) (xs2 m c) c b h i j = Ideal.exp (t X WQ K b h i (gk c j)) := by
  obtain ⟨s, h1, h2⟩ := score_real hr b h i (gk c j)
  unfold w t
  rw [hh.x, hh.wq]
  simp only [hh.k, bit_eq]
  rw [h2]
  refine congrArg Ideal.exp ?_
  refine Eq.trans ?_ (congrArg (fun y => Scalar.select (keepBit i (gk c j)) y ⊥) h1.symm)
  generalize keepBit i (gk c j) = g
  rcases (show g = 1#1 ∨ g = 0#1 by revert g; decide) with rfl | rfl
  · rw [ValueIdx.select_one, ValueIdx.select_one, add_zero]
  · rw [ValueIdx.select_zero, ValueIdx.select_zero, EReal.add_bot]

theorem num_eq (hh : Holds m X WQ K V WO) (hr : Real X WQ K) (c : Dev nD) (b : Fin 2) (h : Fin 4) (d : Fin 64) (i : Fin 128) :
    (all c fun e => numD m e b h d i) = ∑ j : Fin 512, V (ix4 b j h d) * Ideal.exp (t X WQ K b h i j) := by
  rw [all_eq, ← sum_keys]
  refine Finset.sum_congr rfl fun e _ => ?_
  unfold numD num
  refine Finset.sum_congr rfl fun j _ => ?_
  rw [w_eq hh hr, hh.v]

theorem den_eq (hh : Holds m X WQ K V WO) (hr : Real X WQ K) (c : Dev nD) (b : Fin 2) (h : Fin 4) (i : Fin 128) :
    (all c fun e => denD m e b h i) = ∑ j : Fin 512, Ideal.exp (t X WQ K b h i j) := by
  rw [all_eq, ← sum_keys]
  refine Finset.sum_congr rfl fun e _ => ?_
  unfold denD den
  exact Finset.sum_congr rfl fun j _ => w_eq hh hr ..

theorem ctx_eq (hh : Holds m X WQ K V WO) (hr : Real X WQ K) (c : Dev nD) (b : Fin 2) (h : Fin 4) (d : Fin 64) (i : Fin 128) :
    ctx m c b h d i = Cert.ReferenceIdeal.Read.val_main_v43 (F := Ideal) X WQ K V (ix4 b h d i) := by
  rw [RefValue.context_at]
  unfold ctx
  rw [num_eq hh hr, den_eq hh hr]
  choose s hs using fun j => score_real hr b h i j
  refine (Softmax.mean_eq (fun j => keepBit i j = 1#1) s (t X WQ K b h i) (fun j => ?_) 0 (RefValue.keep_zero i) (fun j => V (ix4 b j h d))).symm
  unfold t
  rw [(hs j).1]
  rfl

theorem result_at (hh : Holds m X WQ K V WO) (hr : Real X WQ K) (c : Dev nD) (b : Fin 2) (i : Fin 128) (l : Fin 512) :
    ∑ h, part m c b i l h = Cert.ReferenceIdeal.Read.val_main_v47 (F := Ideal) X WQ K V WO (ix3 b i l) := by
  rw [RefValue.result_at, ← sum_features]
  refine Finset.sum_congr rfl fun h _ => ?_
  unfold part
  refine Finset.sum_congr rfl fun d _ => ?_
  rw [ctx_eq hh hr, hh.wo]
  have e1 : (⟨(hd h d).val / 64, by have := (hd h d).isLt; omega⟩ : Fin 4) = h := Fin.ext (by show (h.val * 64 + d.val) / 64 = h.val; omega)
  have e2 : (⟨(hd h d).val % 64, by omega⟩ : Fin 64) = d := Fin.ext (by show (h.val * 64 + d.val) % 64 = d.val; omega)
  rw [e1, e2]

theorem result_eq (hh : Holds m X WQ K V WO) (hr : Real X WQ K) (c : Dev nD) :
    outAt m c = Cert.ReferenceIdeal.Read.val_main_v47 (F := Ideal) X WQ K V WO := by
  funext (i : S2x128x512.Idx)
  have e := eq_ix3 i
  exact (congrArg (outAt m c) e).trans ((out_at m c _ _ _).trans ((result_at hh hr c _ _ _).trans (congrArg (Cert.ReferenceIdeal.Read.val_main_v47 (F := Ideal) X WQ K V WO) e.symm)))

end Cert.Agree

end
-- ==== Proof.Algebraic.lean ====
/- The kernel's run and the reference's run end with the same result. -/
module

public import proofs.«01_k».proof.Proof.Agree
public import proofs.«01_k».proof.Proof.Frames
public import Idealize.ShloMosaic.Lib.Pipeline.Value

@[expose] public section

set_option maxRecDepth 16384

noncomputable section

namespace Cert.Algebraic

open Idealize.ShloMosaic Idealize.ShloMosaic.TcCoe Idealize.SL.Sem Cert.KernelIdeal Cert.KernelIdeal.Gen Cert.Exchange

/-! ## Operands and result as the run names them -/

section
variable {F : FTy → Type} [FloatOps F] [Named F]
variable (m : (ℓ : Loc nD τ sig) → Buf (Elt F) ℓ)

theorem xs0_eq (c : Dev nD) : xs0 m c = m ((c.tc : Thread nD τ).loc main_arg0) := by
  unfold xs0
  funext (i : S2x128x512.Idx)
  refine congrArg (m ((c.tc : Thread nD τ).loc main_arg0)) (?_ : _ = (i : S2x128x512.Idx))
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega

theorem xs1_eq (c : Dev nD) : xs1 m c = m ((c.tc : Thread nD τ).loc main_arg1) := by
  unfold xs1
  funext (i : S512x256.Idx)
  refine congrArg (m ((c.tc : Thread nD τ).loc main_arg1)) (?_ : _ = (i : S512x256.Idx))
  funext a
  apply Fin.ext
  match a with
  | ⟨0, _⟩ => show 0 * 512 + 1 * (i 0).val = (i 0).val; omega
  | ⟨1, _⟩ => show 0 * 256 + 1 * (i 1).val = (i 1).val; omega

theorem xs2_eq (c : Dev nD) : xs2 m c = m ((c.tc : Thread nD τ).loc main_arg2) := by
  unfold xs2
  funext (i : S2x128x4x64.Idx)
  refine congrArg (m ((c.tc : Thread nD τ).loc main_arg2)) (?_ : _ = (i : S2x128x4x64.Idx))
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 4 + 1 * (i 2).val = (i 2).val; omega
  | ⟨3, _⟩ => show 0 * 64 + 1 * (i 3).val = (i 3).val; omega

theorem xs3_eq (c : Dev nD) : xs3 m c = m ((c.tc : Thread nD τ).loc main_arg3) := by
  unfold xs3
  funext (i : S2x128x4x64.Idx)
  refine congrArg (m ((c.tc : Thread nD τ).loc main_arg3)) (?_ : _ = (i : S2x128x4x64.Idx))
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 4 + 1 * (i 2).val = (i 2).val; omega
  | ⟨3, _⟩ => show 0 * 64 + 1 * (i 3).val = (i 3).val; omega

theorem xs4_eq (c : Dev nD) : xs4 m c = m ((c.tc : Thread nD τ).loc main_arg4) := by
  unfold xs4
  funext (i : S256x512.Idx)
  refine congrArg (m ((c.tc : Thread nD τ).loc main_arg4)) (?_ : _ = (i : S256x512.Idx))
  funext a
  apply Fin.ext
  match a with
  | ⟨0, _⟩ => show 0 * 256 + 1 * (i 0).val = (i 0).val; omega
  | ⟨1, _⟩ => show 0 * 512 + 1 * (i 1).val = (i 1).val; omega

/-- The result's one block is the whole array. -/
theorem outEmb (i : S2x128x512.Idx) : (win0_5.blk (0 : Fin 1)).view.emb (i : S2x128x512.Idx) = (i : S2x128x512.Idx) := by
  funext a
  apply Fin.ext
  match a with
  | ⟨0, _⟩ => show 0 * 2 + 1 * (i 0).val = (i 0).val; omega
  | ⟨1, _⟩ => show 0 * 128 + 1 * (i 1).val = (i 1).val; omega
  | ⟨2, _⟩ => show 0 * 512 + 1 * (i 2).val = (i 2).val; omega

theorem final_out (ρ : Dev nD → PrngReg) (c : Dev nD) : finalA m ρ c 5 = outAt m c := by
  refine (dats m ρ 0 c).arrAt_eq_of_cover (5 : Fin 6) (outAt m c) (fun t _ => ?_) (fun i => ⟨t0_0, by decide, ?_⟩)
  · rw [show t = t0_0 from fin_N0 t]
    funext (i : S2x128x512.Idx)
    exact (congrArg (outAt m c) (outEmb i)).symm
  · exact Finset.mem_map.mpr ⟨i, Finset.mem_univ _, outEmb i⟩

end

/-! ## What the claim's hypotheses say -/

theorem block_at (c : Fin 4) (K : (⟨4, ![2, 512, 4, 64]⟩ : Shape).Idx → EReal) (b : Fin 2) (j : Fin 128) (h : Fin 4) (d : Fin 64) :
    Layout.block ⟨4, ![2, 128, 4, 64]⟩ ⟨4, ![2, 512, 4, 64]⟩ 1 4 c K (by decide) (ix4 b j h d) = K (ix4 b (Agree.gk c j) h d) := by
  refine congrArg K ?_
  funext a
  apply Fin.ext
  rw [Layout.Tiles.idx_val]
  match a with
  | ⟨0, _⟩ => rfl
  | ⟨1, _⟩ => rfl
  | ⟨2, _⟩ => rfl
  | ⟨3, _⟩ => rfl

/-- An extended real of absolute value below the top is a real number. -/
theorem real_of_lt (v : EReal) (h : Ideal.cmp .olt (max v (-v)) ⊤ = 1#1) : ∃ r : ℝ, v = (r : EReal) := by
  have hlt : max v (-v) < ⊤ := by
    by_contra hn
    have : Ideal.cmp .olt (max v (-v)) ⊤ = 0#1 := by simp only [Ideal.cmp, decide_eq_false hn]; rfl
    rw [this] at h
    exact absurd h (by decide)
  obtain ⟨h1, h2⟩ := max_lt_iff.mp hlt
  refine ⟨v.toReal, (EReal.coe_toReal h1.ne fun hb => ?_).symm⟩
  rw [hb, EReal.neg_bot] at h2
  exact lt_irrefl _ h2

theorem reals {ι : Type} (f : ι → EReal) (h : ∀ i, Ideal.cmp .olt (max (f i) (-(f i))) ⊤ = 1#1) : ∃ g : ι → ℝ, ∀ i, f i = (g i : EReal) := by
  choose g hg using fun i => real_of_lt (f i) (h i)
  exact ⟨g, hg⟩

section
open Cert.Pre_finite_KernelIdeal

variable (a0 : FVec Ideal Cert.Pre_finite_KernelIdeal.S2x128x512 .bf16) (a1 : FVec Ideal Cert.Pre_finite_KernelIdeal.S512x256 .bf16) (a2 a3 : FVec Ideal Cert.Pre_finite_KernelIdeal.S2x128x4x64 .bf16) (a4 : FVec Ideal Cert.Pre_finite_KernelIdeal.S256x512 .bf16)

theorem pre0 (h : (fn (F := Ideal) a0 a1 a2 a3 a4).1 = fun _ => 1#1) : ∃ g : Cert.Pre_finite_KernelIdeal.S2x128x512.Idx → ℝ, ∀ i, a0 i = (g i : EReal) :=
  reals a0 fun i => by
    have e : (fn (F := Ideal) a0 a1 a2 a3 a4).1 i = Ideal.cmp .olt (max (a0 i) (-(a0 i))) (Ideal.ofBits .f32 0x7F800000#32) := rfl
    rw [h, Consts.posInf] at e
    exact e.symm
theorem pre1 (h : (fn (F := Ideal) a0 a1 a2 a3 a4).2.1 = fun _ => 1#1) : ∃ g : Cert.Pre_finite_KernelIdeal.S512x256.Idx → ℝ, ∀ i, a1 i = (g i : EReal) :=
  reals a1 fun i => by
    have e : (fn (F := Ideal) a0 a1 a2 a3 a4).2.1 i = Ideal.cmp .olt (max (a1 i) (-(a1 i))) (Ideal.ofBits .f32 0x7F800000#32) := rfl
    rw [h, Consts.posInf] at e
    exact e.symm
theorem pre2 (h : (fn (F := Ideal) a0 a1 a2 a3 a4).2.2 = fun _ => 1#1) : ∃ g : Cert.Pre_finite_KernelIdeal.S2x128x4x64.Idx → ℝ, ∀ i, a2 i = (g i : EReal) :=
  reals a2 fun i => by
    have e : (fn (F := Ideal) a0 a1 a2 a3 a4).2.2 i = Ideal.cmp .olt (max (a2 i) (-(a2 i))) (Ideal.ofBits .f32 0x7F800000#32) := rfl
    rw [h, Consts.posInf] at e
    exact e.symm
end

/-- The whole array of keys is real where each device's block of it is. -/
theorem keys_real (K : (⟨4, ![2, 512, 4, 64]⟩ : Shape).Idx → EReal) (Kc : Dev nD → S2x128x4x64.Idx → EReal)
    (hK : ∀ c, Kc c = Layout.block ⟨4, ![2, 128, 4, 64]⟩ ⟨4, ![2, 512, 4, 64]⟩ 1 4 c K) (hr : ∀ c, ∃ g : S2x128x4x64.Idx → ℝ, ∀ i, Kc c i = (g i : EReal)) :
    ∃ g : (⟨4, ![2, 512, 4, 64]⟩ : Shape).Idx → ℝ, ∀ i, K i = (g i : EReal) := by
  choose g hg using hr
  have one : ∀ i : (⟨4, ![2, 512, 4, 64]⟩ : Shape).Idx, ∃ r : ℝ, K i = (r : EReal) := fun i => by
    have hi : (i 1).val < 512 := (i 1).isLt
    let c : Fin 4 := ⟨(i 1).val / 128, by omega⟩
    let j : Fin 128 := ⟨(i 1).val % 128, by omega⟩
    have hj : Agree.gk c j = i 1 := Fin.ext (by show (i 1).val / 128 * 128 + (i 1).val % 128 = (i 1).val; omega)
    have e : Kc c (ix4 (i 0) j (i 2) (i 3)) = K i := by
      rw [hK c]
      refine (block_at c K (i 0) j (i 2) (i 3)).trans (congrArg K ?_)
      rw [hj]
      exact ix4_eta i
    exact ⟨_, e.symm.trans (hg c _)⟩
  choose f hf using one
  exact ⟨f, hf⟩

theorem algebraic : Cert.algebraic_KernelIdeal_ReferenceIdeal_pre_finite_KernelIdeal := fun m g m' g' hpre heq => by
  have hh : Agree.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (xs0_eq m c).trans (heq c).1
      wq := fun c => (xs1_eq m c).trans (heq c).2.1
      k := fun c b j h d => (congrFun ((xs2_eq m c).trans (heq c).2.2.1) (ix4 b j h d : S2x128x4x64.Idx)).trans (block_at c _ b j h d)
      v := fun c b j h d => (congrFun ((xs3_eq m c).trans (heq c).2.2.2.1) (ix4 b j h d : S2x128x4x64.Idx)).trans (block_at c _ b j h d)
      wo := fun c => (xs4_eq m c).trans (heq c).2.2.2.2 }
  have hr : Agree.Real (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    { x := by rw [← (heq 0).1]; exact pre0 _ _ _ _ _ (hpre 0).1
      wq := by rw [← (heq 0).2.1]; exact pre1 _ _ _ _ _ (hpre 0).2.1
      k := keys_real _ (fun c => m ((c.tc : Thread nD τ).loc main_arg2)) (fun c => (heq c).2.2.1) (fun c => pre2 _ _ _ _ _ (hpre c).2.2) }
  refine ⟨_, (θ_run _ _ _).mono (fun r h c => ⟨?_, Cert.Frames.kept m g h.1 c⟩) (Cert.Exchange.run_main m g),
    (θ_run _ _ _).mono (fun r h => ⟨(h 0).1.trans (Cert.ReferenceIdeal.Read.val_main_v47_eq m' 0), (h 0).2⟩) (Cert.ReferenceIdeal.Value.run (F := Ideal) m' g')⟩
  exact ((h.1 c 5).trans (final_out m g c)).trans (Agree.result_eq hh hr c)

end Cert.Algebraic

end
-- ==== Proof.lean ====
/- The certificate's claims, put together: the frames of the three programs, the idealized kernel's one named constant,
   and the equality of the kernel's and the reference's results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  Cert.Frames.frame_kernel, Cert.Frames.frame_kernelIdeal, Cert.Frames.frame_kernelIdeal_pre, Cert.Frames.frame_reference, Cert.Frames.frame_reference_pre,
  IdealRules.named_const.statement Cert.KernelIdeal.κ "mask" .f32 0xCE6E6B28#32 ⊥ rfl, Cert.Algebraic.algebraic⟩

end Cert.Proof

end
